-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x16x2048x64 : Shape := ⟨4, ![1, 16, 2048, 64]⟩
abbrev S320x16 : Shape := ⟨2, ![320, 16]⟩
abbrev S8x64 : Shape := ⟨2, ![8, 64]⟩
abbrev S8 : Shape := ⟨1, ![8]⟩
abbrev S1x16x1x1 : Shape := ⟨4, ![1, 16, 1, 1]⟩
abbrev S16x320 : Shape := ⟨2, ![16, 320]⟩
abbrev S1x8 : Shape := ⟨2, ![1, 8]⟩
abbrev S1x16 : Shape := ⟨2, ![1, 16]⟩
abbrev S16x2048x2048 : Shape := ⟨3, ![16, 2048, 2048]⟩
abbrev S1x1x1024x64 : Shape := ⟨4, ![1, 1, 1024, 64]⟩
abbrev S1x1024x2048 : Shape := ⟨3, ![1, 1024, 2048]⟩
abbrev S16x8x4096 : Shape := ⟨3, ![16, 8, 4096]⟩
abbrev S1x4096 : Shape := ⟨2, ![1, 4096]⟩
abbrev S320x4096 : Shape := ⟨2, ![320, 4096]⟩
abbrev S16x4096 : Shape := ⟨2, ![16, 4096]⟩
abbrev S16x1 : Shape := ⟨2, ![16, 1]⟩
abbrev S16x4095 : Shape := ⟨2, ![16, 4095]⟩
abbrev S16x1x4096 : Shape := ⟨3, ![16, 1, 4096]⟩
abbrev S16x2 : Shape := ⟨2, ![16, 2]⟩
abbrev S16x4094 : Shape := ⟨2, ![16, 4094]⟩
abbrev S16x3 : Shape := ⟨2, ![16, 3]⟩
abbrev S16x4093 : Shape := ⟨2, ![16, 4093]⟩
abbrev S16x4 : Shape := ⟨2, ![16, 4]⟩
abbrev S16x4092 : Shape := ⟨2, ![16, 4092]⟩
abbrev S16x5 : Shape := ⟨2, ![16, 5]⟩
abbrev S16x4091 : Shape := ⟨2, ![16, 4091]⟩
abbrev S16x6 : Shape := ⟨2, ![16, 6]⟩
abbrev S16x4090 : Shape := ⟨2, ![16, 4090]⟩
abbrev S16x7 : Shape := ⟨2, ![16, 7]⟩
abbrev S16x4089 : Shape := ⟨2, ![16, 4089]⟩
abbrev S16x8 : Shape := ⟨2, ![16, 8]⟩
abbrev S16x4088 : Shape := ⟨2, ![16, 4088]⟩
abbrev S1024x64 : Shape := ⟨2, ![1024, 64]⟩
abbrev S1024x8 : Shape := ⟨2, ![1024, 8]⟩
abbrev S1024x4 : Shape := ⟨2, ![1024, 4]⟩
abbrev S1024 : Shape := ⟨1, ![1024]⟩
abbrev S1024x1 : Shape := ⟨2, ![1024, 1]⟩
abbrev S1x1x16 : Shape := ⟨3, ![1, 1, 16]⟩
abbrev S1 : Shape := ⟨1, ![1]⟩
abbrev S1x1x1 : Shape := ⟨3, ![1, 1, 1]⟩
abbrev S1x8x3072 : Shape := ⟨3, ![1, 8, 3072]⟩
abbrev S8x3072 : Shape := ⟨2, ![8, 3072]⟩
abbrev S8x2048 : Shape := ⟨2, ![8, 2048]⟩
abbrev S1x8x2048 : Shape := ⟨3, ![1, 8, 2048]⟩
abbrev S8x1 : Shape := ⟨2, ![8, 1]⟩

abbrev nBuf : Space → Nat
  | .hbm => 10
  | .vmem => 11
  | .smem => 0
  | _ => 0

abbrev bufTy : (tb : Table) → Fin (tcTables nBuf tb) → BufTy
  | .hbm, ⟨0, _⟩ => ⟨S1x16x2048x64, .f32⟩
  | .hbm, ⟨1, _⟩ => ⟨S320x16, .f32⟩
  | .hbm, ⟨2, _⟩ => ⟨S8x64, .f32⟩
  | .hbm, ⟨3, _⟩ => ⟨S8, .f32⟩
  | .hbm, ⟨4, _⟩ => ⟨S1x16x1x1, .f32⟩
  | .hbm, ⟨5, _⟩ => ⟨S16x320, .f32⟩
  | .hbm, ⟨6, _⟩ => ⟨S1x8, .f32⟩
  | .hbm, ⟨7, _⟩ => ⟨S1x16, .f32⟩
  | .hbm, ⟨8, _⟩ => ⟨S16x2048x2048, .f32⟩
  | .hbm, ⟨9, _⟩ => ⟨S16x2048x2048, .f32⟩
  | .local _ .vmem, ⟨0, _⟩ => ⟨S16x320, .f32⟩
  | .local _ .vmem, ⟨1, _⟩ => ⟨S1x1x1024x64, .f32⟩
  | .local _ .vmem, ⟨2, _⟩ => ⟨S1x1x1024x64, .f32⟩
  | .local _ .vmem, ⟨3, _⟩ => ⟨S8x64, .f32⟩
  | .local _ .vmem, ⟨4, _⟩ => ⟨S1x8, .f32⟩
  | .local _ .vmem, ⟨5, _⟩ => ⟨S1x16, .f32⟩
  | .local _ .vmem, ⟨6, _⟩ => ⟨S1x1024x2048, .f32⟩
  | .local _ .vmem, ⟨7, _⟩ => ⟨S1x1024x2048, .f32⟩
  | .local _ .vmem, ⟨8, _⟩ => ⟨S1x1024x2048, .f32⟩
  | .local _ .vmem, ⟨9, _⟩ => ⟨S1x1024x2048, .f32⟩
  | .local _ .vmem, ⟨10, _⟩ => ⟨S16x8x4096, .f32⟩
  | _, _ => ⟨S1x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![16, 2], ![false, false]⟩

def k0_mult1 (i : grid0.Coords) : BitVec 32 :=
  let c2048_i32 : BitVec 32 := 2048#32
  let c1024_i32 : BitVec 32 := 1024#32
  let arg1 : BitVec 32 := BitVec.ofNat 32 (i 1).val
  let c1_i32 : BitVec 32 := 1#32
  let v39 : BitVec 32 := Scalar.addi arg1 c1_i32
  let v40 : BitVec 32 := Scalar.muli c1024_i32 v39
  let v41 : BitVec 32 := Scalar.subi c2048_i32 v40
  v41
def k0_off1 (i : grid0.Coords) : Fin 3 → Nat :=
  let arg0 : BitVec 32 := BitVec.ofNat 32 (i 0).val
  let v43 : Index := Scalar.indexCast arg0
  let c0_17 : Index := 0#32
  let c2048_i32 : BitVec 32 := 2048#32
  let c1024_i32 : BitVec 32 := 1024#32
  let arg1 : BitVec 32 := BitVec.ofNat 32 (i 1).val
  let c1_i32 : BitVec 32 := 1#32
  let v39 : BitVec 32 := Scalar.addi arg1 c1_i32
  let v40 : BitVec 32 := Scalar.muli c1024_i32 v39
  let v41 : BitVec 32 := Scalar.subi c2048_i32 v40
  let v42 : BitVec 32 := v41
  let v44 : Index := Scalar.indexCast v42
  ![v43.toNat, 0, v44.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S16x320 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S1x16x2048x64 : Shape := ⟨4, ![1, 16, 2048, 64]⟩
abbrev S320x16 : Shape := ⟨2, ![320, 16]⟩
abbrev S8x64 : Shape := ⟨2, ![8, 64]⟩
abbrev S8 : Shape := ⟨1, ![8]⟩
abbrev S1x16x1x1 : Shape := ⟨4, ![1, 16, 1, 1]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S2048x2048x1 : Shape := ⟨3, ![2048, 2048, 1]⟩
abbrev S1 : Shape := ⟨1, ![1]⟩
abbrev S1x1x1 : Shape := ⟨3, ![1, 1, 1]⟩
abbrev S2048x2048x16 : Shape := ⟨3, ![2048, 2048, 16]⟩
abbrev S16x2048x2048 : Shape := ⟨3, ![16, 2048, 2048]⟩
abbrev S1x16x2048x2048 : Shape := ⟨4, ![1, 16, 2048, 2048]⟩
abbrev S1x16x2048x8 : Shape := ⟨4, ![1, 16, 2048, 8]⟩
abbrev S1x1x1x8 : Shape := ⟨4, ![1, 1, 1, 8]⟩
abbrev S1x16x2048x2x4 : Shape := ⟨5, ![1, 16, 2048, 2, 4]⟩
abbrev S1x16x2048x2 : Shape := ⟨4, ![1, 16, 2048, 2]⟩
abbrev S1x16x2048x1 : Shape := ⟨4, ![1, 16, 2048, 1]⟩
abbrev S16x2048x1 : Shape := ⟨3, ![16, 2048, 1]⟩

abbrev nBuf : Space → Nat
  | .hbm => 101
  | .vmem => 0
  | .smem => 0
  | _ => 0

abbrev bufTy : (tb : Table) → Fin (tcTables nBuf tb) → BufTy
  | .hbm, ⟨0, _⟩ => ⟨S1x16x2048x64, .f32⟩
  | .hbm, ⟨1, _⟩ => ⟨S320x16, .f32⟩
  | .hbm, ⟨2, _⟩ => ⟨S8x64, .f32⟩
  | .hbm, ⟨3, _⟩ => ⟨S8, .f32⟩
  | .hbm, ⟨4, _⟩ => ⟨S1x16x1x1, .f32⟩
  | .hbm, ⟨5, _⟩ => ⟨S2048, .i32⟩
  | .hbm, ⟨6, _⟩ => ⟨S2048x1, .i32⟩
  | .hbm, ⟨7, _⟩ => ⟨S2048, .i32⟩
  | .hbm, ⟨8, _⟩ => ⟨S1x2048, .i32⟩
  | .hbm, ⟨9, _⟩ => ⟨S2048x2048, .i32⟩
  | .hbm, ⟨10, _⟩ => ⟨S2048x2048, .i32⟩
  | .hbm, ⟨11, _⟩ => ⟨S2048x2048, .i32⟩
  | .hbm, ⟨12, _⟩ => ⟨S_, .i32⟩
  | .hbm, ⟨13, _⟩ => ⟨S2048x2048, .i32⟩
  | .hbm, ⟨14, _⟩ => ⟨S2048x2048, .i1⟩
  | .hbm, ⟨15, _⟩ => ⟨S2048x2048, .i32⟩
  | .hbm, ⟨16, _⟩ => ⟨S_, .i32⟩
  | .hbm, ⟨17, _⟩ => ⟨S2048x2048, .i32⟩
  | .hbm, ⟨18, _⟩ => ⟨S2048x2048, .i32⟩
  | .hbm, ⟨19, _⟩ => ⟨S2048x2048, .i32⟩
  | .hbm, ⟨20, _⟩ => ⟨S_, .i32⟩
  | .hbm, ⟨21, _⟩ => ⟨S2048x2048, .i32⟩
  | .hbm, ⟨22, _⟩ => ⟨S2048x2048, .i1⟩
  | .hbm, ⟨23, _⟩ => ⟨S2048x2048, .f32⟩
  | .hbm, ⟨24, _⟩ => ⟨S_, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | .hbm, ⟨37, _⟩ => ⟨S2048x2048, .i32⟩
  | .hbm, ⟨38, _⟩ => ⟨S_, .i32⟩
  | .hbm, ⟨39, _⟩ => ⟨S2048x2048, .i32⟩
  | .hbm, ⟨40, _⟩ => ⟨S2048x2048, .i32⟩
  | .hbm, ⟨41, _⟩ => ⟨S_, .i32⟩
  | .hbm, ⟨42, _⟩ => ⟨S2048x2048, .i32⟩
  | .hbm, ⟨43, _⟩ => ⟨S2048x2048, .i32⟩
  | .hbm, ⟨44, _⟩ => ⟨S2048x2048, .i32⟩
  | .hbm, ⟨45, _⟩ => ⟨S2048x2048, .i32⟩
  | .hbm, ⟨46, _⟩ => ⟨S_, .i32⟩
  | .hbm, ⟨47, _⟩ => ⟨S2048x2048, .i32⟩
  | .hbm, ⟨48, _⟩ => ⟨S2048x2048, .i1⟩
  | .hbm, ⟨49, _⟩ => ⟨S_, .i32⟩
  | .hbm, ⟨50, _⟩ => ⟨S2048x2048, .i32⟩
  | .hbm, ⟨51, _⟩ => ⟨S2048x2048, .i32⟩
  | .hbm, ⟨52, _⟩ => ⟨S2048x2048, .i32⟩
  | .hbm, ⟨53, _⟩ => ⟨S2048x2048x1, .i32⟩
  | .hbm, ⟨54, _⟩ => ⟨S1, .i32⟩
  | .hbm, ⟨55, _⟩ => ⟨S_, .i32⟩
  | .hbm, ⟨56, _⟩ => ⟨S2048x2048x1, .i32⟩
  | .hbm, ⟨57, _⟩ => ⟨S2048x2048x1, .i1⟩
  | .hbm, ⟨58, _⟩ => ⟨S1x1x1, .i32⟩
  | .hbm, ⟨59, _⟩ => ⟨S2048x2048x1, .i32⟩
  | .hbm, ⟨60, _⟩ => ⟨S2048x2048x1, .i1⟩
  | .hbm, ⟨61, _⟩ => ⟨S2048x2048x1, .i1⟩
  | .hbm, ⟨62, _⟩ => ⟨S_, .i1⟩
  | .hbm, ⟨63, _⟩ => ⟨S2048x2048, .i1⟩
  | .hbm, ⟨64, _⟩ => ⟨S2048x2048x16, .f32⟩
  | .hbm, ⟨65, _⟩ => ⟨S2048x2048x16, .i1⟩
  | .hbm, ⟨66, _⟩ => ⟨S_, .f32⟩
  | .hbm, ⟨67, _⟩ => ⟨S2048x2048x16, .f32⟩
  | .hbm, ⟨68, _⟩ => ⟨S2048x2048x16, .f32⟩
  | .hbm, ⟨69, _⟩ => ⟨S16x2048x2048, .f32⟩
  | .hbm, ⟨70, _⟩ => ⟨S1x16x2048x2048, .f32⟩
  | .hbm, ⟨71, _⟩ => ⟨S16x2048x2048, .f32⟩
  | .hbm, ⟨72, _⟩ => ⟨S1x16x2048x8, .f32⟩
  | .hbm, ⟨73, _⟩ => ⟨S1x1x1x8, .f32⟩
  | .hbm, ⟨74, _⟩ => ⟨S1x16x2048x8, .f32⟩
  | .hbm, ⟨75, _⟩ => ⟨S1x16x2048x8, .f32⟩
  | .hbm, ⟨76, _⟩ => ⟨S1x16x2048x2x4, .f32⟩
  | .hbm, ⟨77, _⟩ => ⟨S_, .f32⟩
  | .hbm, ⟨78, _⟩ => ⟨S1x16x2048x2, .f32⟩
  | .hbm, ⟨79, _⟩ => ⟨S1x16x2048x2, .f32⟩
  | .hbm, ⟨80, _⟩ => ⟨S1x16x2048x2, .f32⟩
  | .hbm, ⟨81, _⟩ => ⟨S_, .f32⟩
  | .hbm, ⟨82, _⟩ => ⟨S1x16x2048x2, .f32⟩
  | .hbm, ⟨83, _⟩ => ⟨S1x16x2048x2, .f32⟩
  | .hbm, ⟨84, _⟩ => ⟨S_, .f32⟩
  | .hbm, ⟨85, _⟩ => ⟨S1x16x2048x2, .f32⟩
  | .hbm, ⟨86, _⟩ => ⟨S1x16x2048x2, .f32⟩
  | .hbm, ⟨87, _⟩ => ⟨S1x16x2048x1, .f32⟩
  | .hbm, ⟨88, _⟩ => ⟨S1x16x2048x1, .f32⟩
  | .hbm, ⟨89, _⟩ => ⟨S1x16x2048x1, .f32⟩
  | .hbm, ⟨90, _⟩ => ⟨S1x16x2048x1, .f32⟩
  | .hbm, ⟨91, _⟩ => ⟨S_, .f32⟩
  | .hbm, ⟨92, _⟩ => ⟨S1x16x2048x1, .f32⟩
  | .hbm, ⟨93, _⟩ => ⟨S1x16x2048x1, .f32⟩
  | .hbm, ⟨94, _⟩ => ⟨S1x16x2048x1, .f32⟩
  | .hbm, ⟨95, _⟩ => ⟨S_, .f32⟩
  | .hbm, ⟨96, _⟩ => ⟨S1x16x2048x1, .f32⟩
  | .hbm, ⟨97, _⟩ => ⟨S1x16x2048x1, .f32⟩
  | .hbm, ⟨98, _⟩ => ⟨S16x2048x1, .f32⟩
  | .hbm, ⟨99, _⟩ => ⟨S16x2048x2048, .f32⟩
  | .hbm, ⟨100, _⟩ => ⟨S16x2048x2048, .f32⟩
  | _, _ => ⟨S1x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_5 : Ref sig .tc := ⟨.hbm, 38, rfl⟩
abbrev main_v26 : Ref sig .tc := ⟨.hbm, 39, rfl⟩
abbrev main_v27 : Ref sig .tc := ⟨.hbm, 40, rfl⟩
abbrev main_c_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_call1_cst : Ref sig .tc := ⟨.hbm, 66, rfl⟩
abbrev main_call1_v15 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_cst_7 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_cst_8 : Ref sig .tc := ⟨.hbm, 81, rfl⟩
abbrev main_v44 : Ref sig .tc := ⟨.hbm, 82, rfl⟩
abbrev main_v45 : Ref sig .tc := ⟨.hbm, 83, rfl⟩
abbrev main_cst_9 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_cst_10 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_cst_11 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩

abbrev nD : Nat := 1
abbrev τ : Topo := Topo.v7x

variable {F : FTy → Type} [FloatOps F]
-- ==== Proof.Rows.lean ====
/- An array filled slab by slab and read as one array; what each store of the two output blocks and of the scratch puts. -/
module

public import proofs.«01_k».proof.Proof.Gen.KernelIdeal.Value
public import Idealize.ShloMosaic.Lib.ValueIdx

@[expose] public section

set_option maxRecDepth 16384

noncomputable section

namespace Cert.KernelIdeal.Rows

open Idealize.ShloMosaic Idealize.ShloMosaic.TcCoe Idealize.ShloMosaic.Tactic Idealize.SL.Sem Cert.KernelIdeal.Gen Idealize.ShloMosaic.ValueIdx

variable {F : FTy → Type} [FloatOps F]

/-! ## An array [A, M, B] filled slab by slab

Store number `n` writes the `H` rows from row `H n` on the middle axis; `N` stores fill the array when `H N = M`. -/

section

variable {A H B M N : ℕ}

/-- Slab number `n` lies inside the array. -/
theorem slab_inb (hM : H * N = M) (n : ℕ) (hn : n < N) (a : Fin 3) :
    (![0, H * n, 0] : Fin 3 → ℕ) a + (⟨3, ![A, H, B]⟩ : Shape).size a ≤ (⟨3, ![A, M, B]⟩ : Shape).size a := by
  have h : H * (n + 1) ≤ H * N := Nat.mul_le_mul_left H hn
  rw [hM, Nat.mul_succ] at h
  fin_cases a
  · show 0 + A ≤ A; omega
  · exact h
  · show 0 + B ≤ B; omega

/-- The store of `P` into slab number `n`. -/
def slab (hM : H * N = M) (n : ℕ) (hn : n < N) (P : FVec F ⟨3, ![A, H, B]⟩ .f32) : View.Piece (Elt F) ⟨3, ![A, M, B]⟩ .f32 :=
  ⟨Rect.unit (s := ⟨3, ![A, M, B]⟩) ![0, H * n, 0] (⟨3, ![A, H, B]⟩ : Shape).size (slab_inb hM n hn), P⟩

/-- The first `n` stores, the last one first. -/
def slabs (hM : H * N = M) (P : (k : ℕ) → k < N → FVec F ⟨3, ![A, H, B]⟩ .f32) : (n : ℕ) → n ≤ N → List (View.Piece (Elt F) ⟨3, ![A, M, B]⟩ .f32)
  | 0, _ => []
  | n + 1, hn => slab hM n hn (P n hn) :: slabs hM P n (Nat.le_of_succ_le hn)

/-- Where an index of the array lies in its slab. -/
def inSlab (hH : 0 < H) (y : (⟨3, ![A, M, B]⟩ : Shape).Idx) : (⟨3, ![A, H, B]⟩ : Shape).Idx :=
  ix3 (y 0) ⟨(y 1).val % H, Nat.mod_lt _ hH⟩ (y 2)

/-- Each coordinate along the filled axis is in one of the slabs. -/
theorem slab_lt (hM : H * N = M) (y : (⟨3, ![A, M, B]⟩ : Shape).Idx) : (y 1).val / H < N :=
  Nat.div_lt_of_lt_mul (by rw [hM]; exact (y 1).isLt)

/-- Once the stores have passed row `y 1`, the array holds there what its slab's store put. -/
theorem canon_slabs (hM : H * N = M) (hH : 0 < H) (P : (k : ℕ) → k < N → FVec F ⟨3, ![A, H, B]⟩ .f32) (y : (⟨3, ![A, M, B]⟩ : Shape).Idx) :
    (n : ℕ) → (hn : n ≤ N) → (y 1).val < H * n → View.canon (slabs hM P n hn) y = P ((y 1).val / H) (slab_lt hM y) (inSlab hH y)
  | 0, _, h => absurd h (by simp)
  | n + 1, hn, h => by
    by_cases hy : H * n ≤ (y 1).val
    · have hq : (y 1).val / H = n := Nat.div_eq_of_lt_le (by rwa [Nat.mul_comm]) (by rwa [Nat.mul_comm])
      have hr := Nat.div_add_mod (y 1).val H
      rw [hq] at hr
      have he : (Rect.unit (s := ⟨3, ![A, M, B]⟩) ![0, H * n, 0] (⟨3, ![A, H, B]⟩ : Shape).size (slab_inb hM n hn)).emb (inSlab hH y) = y := by
        funext a
        refine Fin.ext ?_
        rw [Rect.emb_apply]
        fin_cases a
        · show 0 + 1 * (y 0).val = (y 0).val
          omega
        · show H * n + 1 * ((y 1).val % H) = (y 1).val
          omega
        · show 0 + 1 * (y 2).val = (y 2).val
          omega
      have hc := View.canon_cons_emb (Val := Elt F) (Rect.unit (s := ⟨3, ![A, M, B]⟩) ![0, H * n, 0] (⟨3, ![A, H, B]⟩ : Shape).size (slab_inb hM n hn))
        (P n hn) (slabs hM P n (Nat.le_of_succ_le hn)) (inSlab hH y)
      rw [he] at hc
      simp only [hq]
      exact hc
    · have hm : y ∉ (slab hM n hn (P n hn)).1.set := by
        intro hm
        exact hy (((Rect.mem_set_unit (inb := slab_inb hM n hn)).mp hm 1).1)
      show View.canon (slab hM n hn (P n hn) :: slabs hM P n _) y = _
      rw [View.canon_cons_of_not_mem _ _ hm]
      exact canon_slabs hM hH P y n _ (by omega)

/-- All the stores: every index of the array. -/
theorem canon_all (hM : H * N = M) (hH : 0 < H) (P : (k : ℕ) → k < N → FVec F ⟨3, ![A, H, B]⟩ .f32) (y : (⟨3, ![A, M, B]⟩ : Shape).Idx) :
    View.canon (slabs hM P N le_rfl) y = P ((y 1).val / H) (slab_lt hM y) (inSlab hH y) :=
  canon_slabs hM hH P y N le_rfl (by rw [hM]; exact (y 1).isLt)

end

/-- The output block [1, 1024, 2048] after 128 stores of eight rows. -/
def filled (P : (k : ℕ) → k < 128 → FVec F S1x8x2048 .f32) : Vec F S1x1024x2048 .f32 :=
  View.canon (slabs (M := 1024) (N := 128) rfl P 128 le_rfl)

/-- The scratch [16, 8, 4096] after eight stores of one row per head. -/
def filledScratch (P : (k : ℕ) → k < 8 → FVec F S16x1x4096 .f32) : Vec F S16x8x4096 .f32 :=
  View.canon (slabs (M := 8) (N := 8) rfl P 8 le_rfl)

/-! ## The two payloads of store number `n`

`w` holds eight rows of 3072 columns; store `n` takes the 2048 columns from `1024 - 8 n`. -/

/-- Each of the 128 windows fits. -/
theorem window_slices (n : ℕ) (hn : n < 128) : S8x3072.Slices ![0, 1024 - 8 * n] S8x2048 :=
  ⟨rfl, fun a => by
    fin_cases a
    · show 0 + 8 ≤ 8; omega
    · show 1024 - 8 * n + 2048 ≤ 3072; omega⟩

/-- Each run of eight gates fits. -/
theorem gate_slices (n : ℕ) (hn : n < 128) : S1024x1.Slices ![8 * n, 0] S8x1 :=
  ⟨rfl, fun a => by
    fin_cases a
    · show 8 * n + 8 ≤ 1024; omega
    · show 0 + 1 ≤ 1; omega⟩

/-- The 2048 columns of the wide rows that store `n` takes. -/
def window (w : FVec F S8x3072 .f32) (n : ℕ) (hn : n < 128) : FVec F S8x2048 .f32 :=
  extractStridedSlice S8x2048 ![0, 1024 - 8 * n] w (window_slices n hn)

/-- What store `n` puts in the bias block. -/
def biasRow (w : FVec F S8x3072 .f32) (n : ℕ) (hn : n < 128) : FVec F S1x8x2048 .f32 :=
  shapeCast S1x8x2048 (window w n hn) shapeCasts_S8x2048_S1x8x2048

/-- What store `n` puts in the gated block: the eight gates of its rows times the same columns. -/
def gatedRow (g : FVec F S1024x1 .f32) (w : FVec F S8x3072 .f32) (n : ℕ) (hn : n < 128) : FVec F S1x8x2048 .f32 :=
  shapeCast S1x8x2048
    (mulf (broadcastTo S8x2048 (extractStridedSlice S8x1 ![8 * n, 0] g (gate_slices n hn)) broadcasts_S8x1_S8x2048) (window w n hn))
    shapeCasts_S8x2048_S1x8x2048

/-! ## The payload of the scratch's store number `n`

`v` is the bias of each head along 4096 relative positions; row `n` of the scratch is `v` shifted right by `n + 1`,
zeros entering on the left. -/

/-- Each shifted copy takes columns that exist. -/
theorem shift_slices (n : ℕ) (hn : n < 8) : S16x4096.Slices ![0, 0] (⟨2, ![16, 4095 - n]⟩ : Shape) :=
  ⟨rfl, fun a => by
    fin_cases a
    · show 0 + 16 ≤ 16; omega
    · show 0 + (4095 - n) ≤ 4096; omega⟩

/-- A copy shifted by `n + 1` has `n + 1` columns of zeros and 4095 - `n` of the bias. -/
theorem shift_concatenates (n : ℕ) (hn : n < 8) :
    Shape.Concatenates [(⟨2, ![16, n + 1]⟩ : Shape), (⟨2, ![16, 4095 - n]⟩ : Shape)] S16x4096 1 := by
  refine ⟨by simp, ?_, ?_⟩
  · intro s hs
    simp only [List.mem_cons, List.not_mem_nil, or_false] at hs
    rcases hs with rfl | rfl <;> refine ⟨rfl, fun b hb => ?_⟩ <;> fin_cases b <;> first | rfl | exact absurd rfl hb
  · show (n + 1) + ((4095 - n) + 0) = 4096
    omega

/-- What store `n` puts in row `n` of the scratch. -/
def shifted (v : FVec F S16x4096 .f32) (n : ℕ) (hn : n < 8) : FVec F S16x1x4096 .f32 :=
  shapeCast S16x1x4096
    (concatenate S16x4096 1
      [⟨(⟨2, ![16, n + 1]⟩ : Shape), broadcast ⟨2, ![16, n + 1]⟩ (Scalar.ofBits .f32 0x00000000#32 : F .f32)⟩,
       ⟨(⟨2, ![16, 4095 - n]⟩ : Shape), extractStridedSlice ⟨2, ![16, 4095 - n]⟩ ![0, 0] v (shift_slices n hn)⟩]
      (shift_concatenates n hn))
    shapeCasts_S16x4096_S16x1x4096

end Cert.KernelIdeal.Rows

end
-- ==== Proof.Body.lean ====
/- What one grid point leaves in its two output blocks and in the scratch, as named arrays. -/
module

public import proofs.«01_k».proof.Proof.Rows

@[expose] public section

set_option maxRecDepth 16384

noncomputable section

namespace Cert.KernelIdeal.Rows

open Idealize.ShloMosaic Idealize.ShloMosaic.TcCoe Idealize.ShloMosaic.Tactic Idealize.SL.Sem Cert.KernelIdeal.Gen Idealize.ShloMosaic.ValueIdx

variable {F : FTy → Type} [FloatOps F]

/-- The gates of the point's 1024 rows. -/
def gates (i : grid0.Coords) (q : Vec F S1x1x1024x64 .f32) (wq : Vec F S8x64 .f32) (bq : Vec F S1x8 .f32) (gw : Vec F S1x16 .f32) :
    FVec F S1024x1 .f32 :=
  k0_pay14 (k0_pay13 i q wq bq gw) (FloatOps.ofBits FTy.f32 0x40000000#32)

/-- The eight wide rows of the scratch that the point reads: those of its head, from the column its row block fixes. -/
def wide (i : grid0.Coords) (s : Vec F S16x8x4096 .f32) : FVec F S8x3072 .f32 :=
  k0_pay15 (View.ld s (Rect.unit (s := S16x8x4096) (k0_off1 i) S1x8x3072.size (k0_off1_inb i)))

/-- The scratch after the first point: its eight rows are shifts of the head's bias along the relative position. -/
def scratch (x : Vec F S16x320 .f32) : Vec F S16x8x4096 .f32 := filledScratch (shifted (k0_pay3 x))

/-- The stores that fill the scratch. -/
abbrev scratchPieces (x : Vec F S16x320 .f32) : List (View.Piece (Elt F) S16x8x4096 .f32) :=
  slabs (M := 8) (N := 8) rfl (shifted (k0_pay3 x)) 8 le_rfl

/-- Two zero offsets. -/
theorem zeros2 : (![0, 0] : Fin 2 → ℕ) = fun _ => 0 := by funext a; fin_cases a <;> rfl
/-- Four zero offsets. -/
theorem zeros4 : (![0, 0, 0, 0] : Fin 4 → ℕ) = fun _ => 0 := by funext a; fin_cases a <;> rfl

section

variable (c : Dev nD) (i : grid0.Coords) (arg2 : Memref sig .tc .vmem S16x320 .f32) (harg2 : arg2.IsWhole) (arg3 : Memref sig .tc .vmem S1x1x1024x64 .f32) (harg3 : arg3.IsWhole)
  (arg4 : Memref sig .tc .vmem S8x64 .f32) (harg4 : arg4.IsWhole) (arg5 : Memref sig .tc .vmem S1x8 .f32) (harg5 : arg5.IsWhole) (arg6 : Memref sig .tc .vmem S1x16 .f32) (harg6 : arg6.IsWhole)
  (arg7 : Memref sig .tc .vmem S1x1024x2048 .f32) (harg7 : arg7.IsWhole) (arg8 : Memref sig .tc .vmem S1x1024x2048 .f32) (harg8 : arg8.IsWhole)
  (arg9 : Memref sig .tc .vmem S16x8x4096 .f32) (harg9 : arg9.IsWhole)
  (x0 : Vec F S16x320 .f32) (x1 : Vec F S1x1x1024x64 .f32) (x2 : Vec F S8x64 .f32) (x3 : Vec F S1x8 .f32) (x4 : Vec F S1x16 .f32)

/-- The load of the table. -/
abbrev ld0 : Vec F S16x320 .f32 := View.readAt (Elt F) arg2.view (Rect.unit (s := S16x320) ![0, 0] S16x320.size inb_S16x320_S16x320_0_0).toLoadRect (harg2.unread x0)
/-- The load of the hidden values. -/
abbrev ld1 : Vec F S1x1x1024x64 .f32 := View.readAt (Elt F) arg3.view (Rect.unit (s := S1x1x1024x64) ![0, 0, 0, 0] S1x1x1024x64.size inb_S1x1x1024x64_S1x1x1024x64_0_0_0_0).toLoadRect (harg3.unread x1)
/-- The load of the weights. -/
abbrev ld2 : Vec F S8x64 .f32 := View.readAt (Elt F) arg4.view (Rect.unit (s := S8x64) ![0, 0] S8x64.size inb_S8x64_S8x64_0_0).toLoadRect (harg4.unread x2)
/-- The load of the offsets. -/
abbrev ld3 : Vec F S1x8 .f32 := View.readAt (Elt F) arg5.view (Rect.unit (s := S1x8) ![0, 0] S1x8.size inb_S1x8_S1x8_0_0).toLoadRect (harg5.unread x3)
/-- The load of the heads' constants. -/
abbrev ld4 : Vec F S1x16 .f32 := View.readAt (Elt F) arg6.view (Rect.unit (s := S1x16) ![0, 0] S1x16.size inb_S1x16_S1x16_0_0).toLoadRect (harg6.unread x4)

/-! Each reads the contents its buffer holds. -/

/-- The load of the table reads the whole block. -/
theorem ld0_eq : ld0 arg2 harg2 x0 = x0 := by
  unfold ld0; rw [View.readAt_eq_ld, harg2.read_unread]; exact View.ld_unit_zero zeros2 _ _

/-- The load of the hidden values reads the whole block. -/
theorem ld1_eq : ld1 arg3 harg3 x1 = x1 := by
  unfold ld1; rw [View.readAt_eq_ld, harg3.read_unread]; exact View.ld_unit_zero zeros4 _ _

/-- The load of the weights reads the whole block. -/
theorem ld2_eq : ld2 arg4 harg4 x2 = x2 := by
  unfold ld2; rw [View.readAt_eq_ld, harg4.read_unread]; exact View.ld_unit_zero zeros2 _ _

/-- The load of the offsets reads the whole block. -/
theorem ld3_eq : ld3 arg5 harg5 x3 = x3 := by
  unfold ld3; rw [View.readAt_eq_ld, harg5.read_unread]; exact View.ld_unit_zero zeros2 _ _

/-- The load of the heads' constants reads the whole block. -/
theorem ld4_eq : ld4 arg6 harg6 x4 = x4 := by
  unfold ld4; rw [View.readAt_eq_ld, harg6.read_unread]; exact View.ld_unit_zero zeros2 _ _

/-- The load of the wide rows from the scratch at contents `f`. -/
abbrev ldWide (f : arg9.view.ty.Contents (Elt F)) : Vec F S1x8x3072 .f32 :=
  View.readAt (Elt F) arg9.view (Rect.unit (s := S16x8x4096) (k0_off1 i) S1x8x3072.size (k0_off1_inb i)).toLoadRect f

/-- The window loaded from a scratch that holds `s` is the window of `s`. -/
theorem ldWide_unread (s : Vec F S16x8x4096 .f32) : k0_pay15 (ldWide i arg9 (harg9.unread s)) = wide i s := by
  unfold ldWide
  rw [View.readAt_eq_ld, harg9.read_unread]
  rfl

/-- The window loaded after stores that cover the scratch is the window of the array they store. -/
theorem ldWide_writes (L : List (View.Piece (Elt F) S16x8x4096 .f32)) :
    k0_pay15 (ldWide i arg9 (arg9.view.writes (Elt F) arg9.view.junk L)) = wide i (View.canon L) := by
  unfold ldWide
  rw [View.readAt_writes_junk_eq_canon]
  rfl

/-- The first point's scratch is its eight stores. -/
theorem sout_first (hc0 : cond0_0 i) : sout0_A_0 c i arg2 harg2 arg3 harg3 arg4 harg4 arg5 harg5 arg6 harg6 arg7 harg7 arg8 harg8 arg9 harg9 hc0 x0 x1 x2 x3 x4 = scratch x0 := by
  have h : (kernelRun0_A c i arg2 harg2 arg3 harg3 arg4 harg4 arg5 harg5 arg6 harg6 arg7 harg7 arg8 harg8 arg9 harg9 hc0 x0 x1 x2 x3 x4).2.2.1 = scratchPieces (ld0 arg2 harg2 x0) := by
    sl_kernel_rfl
  unfold sout0_A_0
  rw [View.read_writes_junk_eq_canon, h, ld0_eq]
  rfl

/-- The first point's bias block, from the scratch it has just filled. -/
theorem out6_first (hc0 : cond0_0 i) :
    out0_A_6 c i arg2 harg2 arg3 harg3 arg4 harg4 arg5 harg5 arg6 harg6 arg7 harg7 arg8 harg8 arg9 harg9 hc0 x0 x1 x2 x3 x4 = filled (biasRow (wide i (scratch x0))) := by
  have h : (kernelRun0_A c i arg2 harg2 arg3 harg3 arg4 harg4 arg5 harg5 arg6 harg6 arg7 harg7 arg8 harg8 arg9 harg9 hc0 x0 x1 x2 x3 x4).2.1
      = slabs (M := 1024) (N := 128) rfl (biasRow (k0_pay15 (ldWide i arg9 (arg9.view.writes (Elt F) arg9.view.junk (scratchPieces (ld0 arg2 harg2 x0)))))) 128 le_rfl := by
    sl_kernel_rfl
  unfold out0_A_6
  rw [View.read_writes_junk_eq_canon, h, ldWide_writes, ld0_eq]
  rfl

/-- A later point's bias block, from the scratch the point before left. -/
theorem out6_later (hc0 : ¬cond0_0 i) (xs0 : Vec F S16x8x4096 .f32) :
    out0_B_6 c i arg2 harg2 arg3 harg3 arg4 harg4 arg5 harg5 arg6 harg6 arg7 harg7 arg8 harg8 arg9 harg9 hc0 x0 x1 x2 x3 x4 xs0 = filled (biasRow (wide i xs0)) := by
  have h : (kernelRun0_B c i arg2 harg2 arg3 harg3 arg4 harg4 arg5 harg5 arg6 harg6 arg7 harg7 arg8 harg8 arg9 harg9 hc0 x0 x1 x2 x3 x4 xs0).2.1
      = slabs (M := 1024) (N := 128) rfl (biasRow (k0_pay15 (ldWide i arg9 (harg9.unread xs0)))) 128 le_rfl := by
    sl_kernel_rfl
  unfold out0_B_6
  rw [View.read_writes_junk_eq_canon, h, ldWide_unread]
  rfl

/-- The first point's gated block. -/
theorem out5_first (hc0 : cond0_0 i) :
    out0_A_5 c i arg2 harg2 arg3 harg3 arg4 harg4 arg5 harg5 arg6 harg6 arg7 harg7 arg8 harg8 arg9 harg9 hc0 x0 x1 x2 x3 x4 = filled (gatedRow (gates i x1 x2 x3 x4) (wide i (scratch x0))) := by
  have h : (kernelRun0_A c i arg2 harg2 arg3 harg3 arg4 harg4 arg5 harg5 arg6 harg6 arg7 harg7 arg8 harg8 arg9 harg9 hc0 x0 x1 x2 x3 x4).1
      = slabs (M := 1024) (N := 128) rfl (gatedRow (gates i (ld1 arg3 harg3 x1) (ld2 arg4 harg4 x2) (ld3 arg5 harg5 x3) (ld4 arg6 harg6 x4))
          (k0_pay15 (ldWide i arg9 (arg9.view.writes (Elt F) arg9.view.junk (scratchPieces (ld0 arg2 harg2 x0)))))) 128 le_rfl := by
    sl_kernel_rfl
  unfold out0_A_5
  rw [View.read_writes_junk_eq_canon, h, ldWide_writes, ld0_eq, ld1_eq, ld2_eq, ld3_eq, ld4_eq]
  rfl

/-- A later point's gated block. -/
theorem out5_later (hc0 : ¬cond0_0 i) (xs0 : Vec F S16x8x4096 .f32) :
    out0_B_5 c i arg2 harg2 arg3 harg3 arg4 harg4 arg5 harg5 arg6 harg6 arg7 harg7 arg8 harg8 arg9 harg9 hc0 x0 x1 x2 x3 x4 xs0 = filled (gatedRow (gates i x1 x2 x3 x4) (wide i xs0)) := by
  have h : (kernelRun0_B c i arg2 harg2 arg3 harg3 arg4 harg4 arg5 harg5 arg6 harg6 arg7 harg7 arg8 harg8 arg9 harg9 hc0 x0 x1 x2 x3 x4 xs0).1
      = slabs (M := 1024) (N := 128) rfl (gatedRow (gates i (ld1 arg3 harg3 x1) (ld2 arg4 harg4 x2) (ld3 arg5 harg5 x3) (ld4 arg6 harg6 x4))
          (k0_pay15 (ldWide i arg9 (harg9.unread xs0)))) 128 le_rfl := by
    sl_kernel_rfl
  unfold out0_B_5
  rw [View.read_writes_junk_eq_canon, h, ldWide_unread, ld1_eq, ld2_eq, ld3_eq, ld4_eq]
  rfl

end

end Cert.KernelIdeal.Rows

end
-- ==== Proof.Bias.lean ====
/- The blocks of one grid point read at an index: the bias along the relative position, and the gate times it. -/
module

public import proofs.«01_k».proof.Proof.Body
public import Idealize.ShloMosaic.Lib.Pipeline.Value

@[expose] public section

set_option maxRecDepth 16384

noncomputable section

namespace Cert.KernelIdeal.Rows

open Idealize.ShloMosaic Idealize.ShloMosaic.TcCoe Idealize.ShloMosaic.Tactic Idealize.SL.Sem Cert.KernelIdeal.Gen Idealize.ShloMosaic.ValueIdx

variable {F : FTy → Type} [FloatOps F]

/-- A grid point's first coordinate is one of the 16 heads. -/
theorem head_lt (i : grid0.Coords) : (i 0).val < 16 := (i 0).isLt
/-- A grid point's second coordinate is one of the two halves of the rows. -/
theorem half_lt (i : grid0.Coords) : (i 1).val < 2 := (i 1).isLt

/-- Row `n` of the scratch, past its first `n + 1` columns, is `v` that far to the left. -/
theorem shifted_apply (v : FVec F S16x4096 .f32) (n : ℕ) (hn : n < 8) (h : Fin 16) (k : Fin 4096) (hk : n + 1 ≤ k.val) :
    shifted v n hn (ix3 h 0 k) = v (ix2 h ⟨k.val - (n + 1), by omega⟩) := by
  unfold shifted
  rw [shapeCast_apply _ _ _ (ix2 h k) (by
    rw [Shape.rowMajor_val_two, Shape.rowMajor_val_three]
    show h.val * 4096 + k.val = (h.val * 1 + 0) * 4096 + k.val
    omega)]
  refine (concatenate_pair_apply_right (t := S16x4096) (s₁ := ⟨2, ![16, n + 1]⟩) (s₂ := ⟨2, ![16, 4095 - n]⟩) 1 _ _
    (shift_concatenates n hn) (ix2 h k) rfl rfl (ix2 h ⟨k.val - (n + 1), by have := k.isLt; show _ < 4095 - n; omega⟩)
    (fun b hb => by fin_cases b <;> first | rfl | exact absurd rfl hb)
    (by show k.val - (n + 1) + (n + 1) = k.val; omega)).trans ?_
  exact extractStridedSlice_apply _ _ _ _ _ fun a => by
    fin_cases a
    · show h.val = 0 + h.val; omega
    · show k.val - (n + 1) = 0 + (k.val - (n + 1)); omega

/-- A filled scratch holds in row `r` what store number `r` wrote. -/
theorem filledScratch_apply (P : (k : ℕ) → k < 8 → FVec F S16x1x4096 .f32) (h : Fin 16) (r : Fin 8) (k : Fin 4096) :
    filledScratch P (ix3 h r k) = P r.val r.isLt (ix3 h 0 k) := by
  have same : ∀ (q : ℕ) (hq : q < 8) (z : S16x1x4096.Idx), q = r.val → z = ix3 h 0 k → P q hq z = P r.val r.isLt (ix3 h 0 k) := by
    rintro q hq z rfl rfl; rfl
  refine (canon_all (A := 16) (B := 4096) (H := 1) (M := 8) (N := 8) rfl Nat.one_pos P (ix3 h r k)).trans (same _ _ _ (Nat.div_one _) ?_)
  funext a
  fin_cases a
  · rfl
  · exact Fin.ext (Nat.mod_one _)
  · rfl

/-- A filled output block holds in row `p` row `p % 8` of what store number `p / 8` wrote. -/
theorem filled_apply (P : (k : ℕ) → k < 128 → FVec F S1x8x2048 .f32) (p : Fin 1024) (j : Fin 2048) :
    filled P (ix3 0 p j) = P (p.val / 8) (by omega) (ix3 0 ⟨p.val % 8, Nat.mod_lt _ (by decide)⟩ j) :=
  canon_all (A := 1) (B := 2048) (H := 8) (M := 1024) (N := 128) rfl (by decide) P (ix3 0 p j)

/-- The scratch at head `h`, row `r`, column `k > r`. -/
theorem scratch_apply (x : Vec F S16x320 .f32) (h : Fin 16) (r : Fin 8) (k : Fin 4096) (hk : r.val + 1 ≤ k.val) :
    scratch x (ix3 h r k) = k0_pay3 x (ix2 h ⟨k.val - (r.val + 1), by omega⟩) := by
  unfold scratch
  rw [filledScratch_apply]
  exact shifted_apply (k0_pay3 x) r.val r.isLt h k hk

/-- Where the wide rows start: at the point's head, and at column `1024` or `0` for the first and second row block. -/
theorem off_eq (i : grid0.Coords) : k0_off1 i = ![(i 0).val, 0, 1024 - 1024 * (i 1).val] := by
  have h0 := head_lt i
  have h1 := half_lt i
  have e0 : (BitVec.ofNat 32 (i 0).val).toNat = (i 0).val := by
    rw [BitVec.toNat_ofNat]; omega
  have e1 : (2048#32 - 1024#32 * (BitVec.ofNat 32 (i 1).val + 1#32)).toNat = 1024 - 1024 * (i 1).val := by
    rcases (by omega : (i 1).val = 0 ∨ (i 1).val = 1) with h | h <;> rw [h] <;> rfl
  show ![(BitVec.ofNat 32 (i 0).val).toNat, 0, (2048#32 - 1024#32 * (BitVec.ofNat 32 (i 1).val + 1#32)).toNat] = _
  rw [e0, e1]

/-- The wide rows read at an index. -/
theorem wide_apply (i : grid0.Coords) (s : Vec F S16x8x4096 .f32) (r : Fin 8) (k : Fin 3072) :
    wide i s (ix2 r k) = s (ix3 ⟨(i 0).val, head_lt i⟩ r ⟨1024 - 1024 * (i 1).val + k.val, by omega⟩) := by
  unfold wide k0_pay15
  show shapeCast S8x3072 _ _ (ix2 r k) = _
  rw [shapeCast_apply _ _ _ (ix3 0 r k) (by
    rw [Shape.rowMajor_val_two, Shape.rowMajor_val_three]
    show (0 * 8 + r.val) * 3072 + k.val = r.val * 3072 + k.val
    omega)]
  show s _ = s _
  refine congrArg s (funext fun a => Fin.ext ?_)
  fin_cases a
  · show k0_off1 i 0 + 1 * 0 = (i 0).val
    rw [off_eq]
    show (i 0).val + 1 * 0 = (i 0).val
    omega
  · show k0_off1 i 1 + 1 * r.val = r.val
    rw [off_eq]
    show 0 + 1 * r.val = r.val
    omega
  · show k0_off1 i 2 + 1 * k.val = 1024 - 1024 * (i 1).val + k.val
    rw [off_eq]
    show 1024 - 1024 * (i 1).val + 1 * k.val = 1024 - 1024 * (i 1).val + k.val
    omega

/-- The columns store `n` takes, read at an index. -/
theorem window_apply (w : FVec F S8x3072 .f32) (n : ℕ) (hn : n < 128) (r : Fin 8) (j : Fin 2048) :
    window w n hn (ix2 r j) = w (ix2 r ⟨1024 - 8 * n + j.val, by omega⟩) :=
  extractStridedSlice_apply _ _ _ _ _ fun a => by
    fin_cases a
    · show r.val = 0 + r.val; omega
    · rfl

/-- A cast that adds the leading unit axis, read at an index. -/
theorem addUnit_apply (v : FVec F S8x2048 .f32) (r : Fin 8) (j : Fin 2048) :
    shapeCast S1x8x2048 v shapeCasts_S8x2048_S1x8x2048 (ix3 0 r j) = v (ix2 r j) :=
  shapeCast_apply _ _ _ _ (by
    rw [Shape.rowMajor_val_two, Shape.rowMajor_val_three]
    show r.val * 2048 + j.val = (0 * 8 + r.val) * 2048 + j.val
    omega)

/-- The column of `k0_pay3` that row `p` and column `j` of a row block `i 1` read: the relative position
    `j - (1024 (i 1) + p)`, moved up by 2047. -/
def relCol (i : grid0.Coords) (p : Fin 1024) (j : Fin 2048) : Fin 4096 :=
  ⟨2047 + j.val - (1024 * (i 1).val + p.val), by omega⟩

/-- The window a store takes from the point's wide rows is the bias at the relative position. -/
theorem window_wide (i : grid0.Coords) (x : Vec F S16x320 .f32) (p : Fin 1024) (j : Fin 2048) :
    window (wide i (scratch x)) (p.val / 8) (by omega) (ix2 ⟨p.val % 8, Nat.mod_lt _ (by decide)⟩ j)
      = k0_pay3 x (ix2 ⟨(i 0).val, head_lt i⟩ (relCol i p j)) := by
  have h1 := half_lt i
  have hp := p.isLt
  have hj := j.isLt
  rw [window_apply, wide_apply, scratch_apply _ _ _ _ (by
    show p.val % 8 + 1 ≤ 1024 - 1024 * (i 1).val + (1024 - 8 * (p.val / 8) + j.val)
    omega)]
  refine congrArg (fun k => k0_pay3 x (ix2 _ k)) (Fin.ext ?_)
  show 1024 - 1024 * (i 1).val + (1024 - 8 * (p.val / 8) + j.val) - (p.val % 8 + 1) = 2047 + j.val - (1024 * (i 1).val + p.val)
  omega

/-- The bias block of a point. -/
theorem bias_block (i : grid0.Coords) (x : Vec F S16x320 .f32) (p : Fin 1024) (j : Fin 2048) :
    filled (biasRow (wide i (scratch x))) (ix3 0 p j) = k0_pay3 x (ix2 ⟨(i 0).val, head_lt i⟩ (relCol i p j)) := by
  rw [filled_apply]
  unfold biasRow
  rw [addUnit_apply]
  exact window_wide i x p j

/-- The gated block of a point: the row's gate times the bias. -/
theorem gated_block (i : grid0.Coords) (g : FVec F S1024x1 .f32) (x : Vec F S16x320 .f32) (p : Fin 1024) (j : Fin 2048) :
    filled (gatedRow g (wide i (scratch x))) (ix3 0 p j)
      = FloatOps.mulf (g (ix2 p 0)) (k0_pay3 x (ix2 ⟨(i 0).val, head_lt i⟩ (relCol i p j))) := by
  rw [filled_apply]
  unfold gatedRow
  rw [addUnit_apply]
  refine congrArg₂ FloatOps.mulf ?_ (window_wide i x p j)
  rw [broadcastTo_apply _ _ _ (ix2 ⟨p.val % 8, Nat.mod_lt _ (by decide)⟩ 0) fun a => by fin_cases a <;> rfl]
  refine extractStridedSlice_apply _ _ _ _ _ fun a => ?_
  fin_cases a
  · show p.val = 8 * (p.val / 8) + p.val % 8; omega
  · rfl

end Cert.KernelIdeal.Rows

end
-- ==== Proof.Blocks.lean ====
/- The blocks a grid point is given, read off the argument arrays, and what the point leaves in each output array. -/
module

public import proofs.«01_k».proof.Proof.Bias
public import proofs.«01_k».proof.Proof.Gen.KernelIdeal.Value
public import Idealize.ShloMosaic.Lib.Claim

@[expose] public section

set_option maxRecDepth 16384

noncomputable section

namespace Cert.KernelIdeal.Rows

open Idealize.ShloMosaic Idealize.ShloMosaic.TcCoe Idealize.ShloMosaic.Tactic Idealize.SL.Sem Cert.KernelIdeal.Gen Idealize.ShloMosaic.ValueIdx

variable {F : FTy → Type} [FloatOps F]
variable (m : (ℓ : Loc nD τ sig) → Buf (Elt F) ℓ) (c : Dev nD)

/-! ## The argument arrays -/

/-- The first argument, the hidden values. -/
abbrev hiddenArg : FVec F S1x16x2048x64 .f32 := m ((c : Thread nD τ).loc main_arg0)
/-- The second argument, the table of biases. -/
abbrev tableArg : FVec F S320x16 .f32 := m ((c : Thread nD τ).loc main_arg1)
/-- The third argument, the weights of the scores. -/
abbrev weightArg : FVec F S8x64 .f32 := m ((c : Thread nD τ).loc main_arg2)
/-- The fourth argument, the offsets of the scores. -/
abbrev offsetArg : FVec F S8 .f32 := m ((c : Thread nD τ).loc main_arg3)
/-- The fifth argument, the heads' constants. -/
abbrev constArg : FVec F S1x16x1x1 .f32 := m ((c : Thread nD τ).loc main_arg4)

/-! ## What the host operations before the kernel leave -/

/-- The kernel is given the table transposed. -/
theorem entry_table : V m c main_v0 = transpose S16x320 [1, 0] (tableArg m c) transposes_S320x16_S16x320_1_0 := by
  show StableHlo.after hostOps0 _ _ = _
  simp only [StableHlo.after_cons, StableHlo.after_nil]
  rw [StableHlo.reshape_result_ne _ _ _ _ _ _ _ (by decide), StableHlo.reshape_result_ne _ _ _ _ _ _ _ (by decide), StableHlo.unary_result]

/-- The kernel is given the offsets as a row. -/
theorem entry_offset : V m c main_v1 = shapeCast S1x8 (offsetArg m c) shapeCasts_S8_S1x8 := by
  show StableHlo.after hostOps0 _ _ = _
  simp only [StableHlo.after_cons, StableHlo.after_nil]
  rw [StableHlo.reshape_result_ne _ _ _ _ _ _ _ (by decide), StableHlo.reshape_result, StableHlo.unary_result_ne _ _ _ _ _ _ (by decide)]
  rfl

/-- The kernel is given the constants as a row. -/
theorem entry_const : V m c main_v2 = shapeCast S1x16 (constArg m c) shapeCasts_S1x16x1x1_S1x16 := by
  show StableHlo.after hostOps0 _ _ = _
  simp only [StableHlo.after_cons, StableHlo.after_nil]
  rw [StableHlo.reshape_result, StableHlo.reshape_result_ne _ _ _ _ _ _ _ (by decide), StableHlo.unary_result_ne _ _ _ _ _ _ (by decide)]
  rfl

/-! ## The blocks -/

/-- The table block, at every point: the table transposed. -/
theorem table_block (t : Fin cfg0.N) (h : Fin 16) (b : Fin 320) : (iblk m c 0 t : FVec F S16x320 .f32) (ix2 h b) = tableArg m c (ix2 b h) := by
  have e : ((cfg0.win 0).blk t).view.emb (ix2 h b : S16x320.Idx) = (ix2 h b : S16x320.Idx) := by
    funext a
    refine Fin.ext ?_
    fin_cases a
    · show 0 * 16 + 1 * h.val = h.val; omega
    · show 0 * 320 + 1 * b.val = b.val; omega
  show (V m c main_v0) (((cfg0.win 0).blk t).view.emb (ix2 h b : S16x320.Idx)) = _
  rw [e, entry_table]
  exact transpose_apply _ _ _ _ _ fun a => by fin_cases a <;> rfl

/-- The hidden-state block: the point's head and its 1024 rows. -/
theorem hidden_block (t : Fin cfg0.N) (p : Fin 1024) (d : Fin 64) :
    (iblk m c 1 t : FVec F S1x1x1024x64 .f32) (ix4 0 0 p d) = hiddenArg m c (ix4 0 ⟨(grid0.coords t 0).val, head_lt _⟩ ⟨1024 * (grid0.coords t 1).val + p.val, by have := half_lt (grid0.coords t); omega⟩ d) := by
  have h0 := head_lt (grid0.coords t)
  have h1 := half_lt (grid0.coords t)
  have e : ((cfg0.win 1).blk t).view.emb (ix4 0 0 p d : S1x1x1024x64.Idx) = (ix4 0 ⟨(grid0.coords t 0).val, head_lt _⟩ ⟨1024 * (grid0.coords t 1).val + p.val, by omega⟩ d : S1x16x2048x64.Idx) := by
    funext a
    refine Fin.ext ?_
    fin_cases a
    · rfl
    · show (BitVec.ofNat 32 (grid0.coords t 0).val).toNat * 1 + 1 * 0 = (grid0.coords t 0).val
      rw [BitVec.toNat_ofNat]; omega
    · show (BitVec.ofNat 32 (grid0.coords t 1).val).toNat * 1024 + 1 * p.val = 1024 * (grid0.coords t 1).val + p.val
      rw [BitVec.toNat_ofNat]; omega
    · show 0 * 64 + 1 * d.val = d.val; omega
  show (V m c main_arg0) (((cfg0.win 1).blk t).view.emb (ix4 0 0 p d : S1x1x1024x64.Idx)) = _
  rw [e, V_main_arg0]

/-- The projection's weights, whole at every point. -/
theorem weight_block (t : Fin cfg0.N) (r : Fin 8) (d : Fin 64) : (iblk m c 2 t : FVec F S8x64 .f32) (ix2 r d) = weightArg m c (ix2 r d) := by
  have e : ((cfg0.win 2).blk t).view.emb (ix2 r d : S8x64.Idx) = (ix2 r d : S8x64.Idx) := by
    funext a
    refine Fin.ext ?_
    fin_cases a
    · show 0 * 8 + 1 * r.val = r.val; omega
    · show 0 * 64 + 1 * d.val = d.val; omega
  show (V m c main_arg2) (((cfg0.win 2).blk t).view.emb (ix2 r d : S8x64.Idx)) = _
  rw [e, V_main_arg2]

/-- The projection's offsets as a row, at every point. -/
theorem offset_block (t : Fin cfg0.N) (r : Fin 8) : (iblk m c 3 t : FVec F S1x8 .f32) (ix2 0 r) = offsetArg m c (ix1 r) := by
  have e : ((cfg0.win 3).blk t).view.emb (ix2 0 r : S1x8.Idx) = (ix2 0 r : S1x8.Idx) := by
    funext a
    refine Fin.ext ?_
    fin_cases a
    · rfl
    · show 0 * 8 + 1 * r.val = r.val; omega
  show (V m c main_v1) (((cfg0.win 3).blk t).view.emb (ix2 0 r : S1x8.Idx)) = _
  rw [e, entry_offset]
  exact shapeCast_apply _ _ _ _ (by
    rw [Shape.rowMajor_val_two, Shape.rowMajor_val_one]
    show r.val = 0 * 8 + r.val
    omega)

/-- The per-head constants as a row, at every point. -/
theorem const_block (t : Fin cfg0.N) (h : Fin 16) : (iblk m c 4 t : FVec F S1x16 .f32) (ix2 0 h) = constArg m c (ix4 0 h 0 0) := by
  have e : ((cfg0.win 4).blk t).view.emb (ix2 0 h : S1x16.Idx) = (ix2 0 h : S1x16.Idx) := by
    funext a
    refine Fin.ext ?_
    fin_cases a
    · rfl
    · show 0 * 16 + 1 * h.val = h.val; omega
  show (V m c main_v2) (((cfg0.win 4).blk t).view.emb (ix2 0 h : S1x16.Idx)) = _
  rw [e, entry_const]
  exact shapeCast_apply _ _ _ _ (by
    rw [Shape.rowMajor_val_two, Shape.rowMajor_val_four]
    show ((0 * 16 + h.val) * 1 + 0) * 1 + 0 = 0 * 16 + h.val
    omega)

/-- The table block is the same at every point. -/
theorem table_block_eq (t u : Fin cfg0.N) : (iblk m c 0 t : FVec F S16x320 .f32) = (iblk m c 0 u : FVec F S16x320 .f32) := by
  funext y
  have e : ∀ v : Fin cfg0.N, (iblk m c 0 v : FVec F S16x320 .f32) y = tableArg m c (ix2 (y 1) (y 0)) := fun v =>
    (congrArg (iblk m c 0 v : FVec F S16x320 .f32) (eq_ix2 y)).trans (table_block m c v (y 0) (y 1))
  exact (e t).trans (e u).symm

/-! ## What a point leaves -/

/-- The first grid point leaves the shifted copies of the bias in the scratch. -/
theorem scratch_at_first (t : Fin cfg0.N) (h0 : t.val % 32 = 0) : (outsAt0 m c t.val t.isLt).2.2 = scratch (iblk m c 0 t) := by
  have e := sout_first (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t) ((hcond0_0 t).mpr h0)
  rw [outsAt0_A m c t h0]
  dsimp only
  rw [e]

/-- A later grid point leaves the scratch as it found it. -/
theorem scratch_at_later (t : Fin cfg0.N) (h0 : ¬t.val % 32 = 0) :
    (outsAt0 m c t.val t.isLt).2.2 = (outsAt0 m c (t.val - 1) (Nat.lt_of_le_of_lt (Nat.sub_le _ _) t.isLt)).2.2 :=
  congrArg (fun o => o.2.2) (outsAt0_B m c t h0)

/-- The scratch after any point holds the shifted rows the first point stored. -/
theorem scratch_after : ∀ (n : ℕ) (hn : n < cfg0.N), (outsAt0 m c n hn).2.2 = scratch (iblk m c 0 ⟨n, hn⟩)
  | 0, hn => scratch_at_first m c ⟨0, hn⟩ (Nat.zero_mod _)
  | n + 1, hn => by
    have hN : cfg0.N = 32 := N_0
    have h0 : ¬(⟨n + 1, hn⟩ : Fin cfg0.N).val % 32 = 0 := by show ¬(n + 1) % 32 = 0; omega
    exact (scratch_at_later m c ⟨n + 1, hn⟩ h0).trans
      ((scratch_after n (Nat.lt_of_succ_lt hn)).trans (congrArg scratch (table_block_eq m c ⟨n, Nat.lt_of_succ_lt hn⟩ ⟨n + 1, hn⟩)))

/-- What a point that is not the first finds in the scratch. -/
theorem scratch_before (t : Fin cfg0.N) :
    (outsAt0 m c (t.val - 1) (Nat.lt_of_le_of_lt (Nat.sub_le _ _) t.isLt)).2.2 = scratch (iblk m c 0 t) :=
  (scratch_after m c (t.val - 1) _).trans (congrArg scratch (table_block_eq m c ⟨t.val - 1, Nat.lt_of_le_of_lt (Nat.sub_le _ _) t.isLt⟩ t))

/-- The bias block a point leaves. -/
theorem bias_after (t : Fin cfg0.N) :
    (outsAt0 m c t.val t.isLt).2.1 = filled (biasRow (wide (grid0.coords t) (scratch (iblk m c 0 t)))) := by
  by_cases h0 : t.val % 32 = 0
  · have e := out6_first (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t) ((hcond0_0 t).mpr h0)
    rw [outsAt0_A m c t h0]
    dsimp only
    rw [e]
  · have e := out6_later (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t) (fun h => h0 ((hcond0_0 t).mp h)) (outsAt0 m c (t.val - 1) (Nat.lt_of_le_of_lt (Nat.sub_le _ _) t.isLt)).2.2
    rw [outsAt0_B m c t h0]
    dsimp only
    rw [e, scratch_before]

/-- The gated block a point leaves. -/
theorem gated_after (t : Fin cfg0.N) :
    (outsAt0 m c t.val t.isLt).1 = filled (gatedRow
      (gates (grid0.coords t) (iblk m c 1 t) (iblk m c 2 t) (iblk m c 3 t) (iblk m c 4 t))
      (wide (grid0.coords t) (scratch (iblk m c 0 t)))) := by
  by_cases h0 : t.val % 32 = 0
  · have e := out5_first (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t) ((hcond0_0 t).mpr h0)
    rw [outsAt0_A m c t h0]
    dsimp only
    rw [e]
  · have e := out5_later (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t) (fun h => h0 ((hcond0_0 t).mp h)) (outsAt0 m c (t.val - 1) (Nat.lt_of_le_of_lt (Nat.sub_le _ _) t.isLt)).2.2
    rw [outsAt0_B m c t h0]
    dsimp only
    rw [e, scratch_before]

end Cert.KernelIdeal.Rows

end
-- ==== Proof.Arrays.lean ====
/- What the kernel's two result arrays hold, index by index. -/
module

public import proofs.«01_k».proof.Proof.Blocks

@[expose] public section

set_option maxRecDepth 16384

noncomputable section

namespace Cert.KernelIdeal.Rows

open Idealize.ShloMosaic Idealize.ShloMosaic.TcCoe Idealize.ShloMosaic.Tactic Idealize.SL.Sem Cert.KernelIdeal.Gen Idealize.ShloMosaic.ValueIdx

variable {F : FTy → Type} [FloatOps F]
variable (m : (ℓ : Loc nD τ sig) → Buf (Elt F) ℓ) (c : Dev nD)

/-- The grid point that owns row `a` of head `h`. -/
def pointOf (h : Fin 16) (a : Fin 2048) : Fin cfg0.N := ⟨2 * h.val + a.val / 1024, lt_of_lt_of_eq (by omega) N_0.symm⟩

/-- Its head is `h`. -/
theorem pointOf_head (h : Fin 16) (a : Fin 2048) : (grid0.coords (pointOf h a) 0).val = h.val := by
  have e : (grid0.coords (pointOf h a) 0).val = (pointOf h a).val / 2 % 16 := Pipeline.Grid.coords_val _ _ (by decide) rfl
  rw [e]
  show (2 * h.val + a.val / 1024) / 2 % 16 = h.val
  omega

/-- Its half of the rows is the one that has row `a`. -/
theorem pointOf_half (h : Fin 16) (a : Fin 2048) : (grid0.coords (pointOf h a) 1).val = a.val / 1024 := by
  have e : (grid0.coords (pointOf h a) 1).val = (pointOf h a).val / 1 % 2 := Pipeline.Grid.coords_val _ _ (by decide) rfl
  rw [e]
  show (2 * h.val + a.val / 1024) / 1 % 2 = a.val / 1024
  omega

/-- Row `a` inside its point's block. -/
def rowOf (a : Fin 2048) : Fin 1024 := ⟨a.val % 1024, Nat.mod_lt _ (by decide)⟩

/-- The column of the bias along the relative position `j - a`. -/
def colOf (a j : Fin 2048) : Fin 4096 := ⟨2047 + j.val - a.val, by omega⟩

/-- The column a block reads for places `a` and `j` is the one along their relative position. -/
theorem relCol_pointOf (h : Fin 16) (a j : Fin 2048) : relCol (grid0.coords (pointOf h a)) (rowOf a) j = colOf a j := by
  refine Fin.ext ?_
  show 2047 + j.val - (1024 * (grid0.coords (pointOf h a) 1).val + a.val % 1024) = 2047 + j.val - a.val
  rw [pointOf_half]
  omega

/-- The second result holds the bias at the relative position. -/
theorem biasArray_apply (h : Fin 16) (a j : Fin 2048) :
    Value.G6 m c (ix3 h a j : S16x2048x2048.Idx) = k0_pay3 (iblk m c 0 (pointOf h a) : FVec F S16x320 .f32) (ix2 h (colOf a j)) := by
  have hp : Value.pt6Of (ix3 h a j : S16x2048x2048.Idx) = (pointOf h a).val := by
    show 2 * (h.val / 1 - 0) + 1 * (a.val / 1024 - 0) + 1 * (j.val / 2048 - 0) = 2 * h.val + a.val / 1024
    omega
  have hl : Value.loc6Of (ix3 h a j : S16x2048x2048.Idx) = (ix3 0 (rowOf a) j : S1x1024x2048.Idx) := by
    funext b
    refine Fin.ext ?_
    fin_cases b
    · exact Nat.mod_one _
    · rfl
    · exact Nat.mod_eq_of_lt j.isLt
  unfold Value.G6
  rw [dif_pos (by rw [hp]; exact (pointOf h a).isLt), hl, Value.fold0_congr m c _ _ _ (by rw [Nat.zero_add]; exact (pointOf h a).isLt) hp, ← Value.outsAt0_sweep m c _ (pointOf h a).isLt, bias_after, bias_block, relCol_pointOf]
  congr 2
  exact Fin.ext (pointOf_head h a)

/-- The first result holds the row's gate times it. -/
theorem gatedArray_apply (h : Fin 16) (a j : Fin 2048) :
    Value.G5 m c (ix3 h a j : S16x2048x2048.Idx) = FloatOps.mulf
      (gates (grid0.coords (pointOf h a)) (iblk m c 1 (pointOf h a)) (iblk m c 2 (pointOf h a)) (iblk m c 3 (pointOf h a)) (iblk m c 4 (pointOf h a)) (ix2 (rowOf a) 0))
      (k0_pay3 (iblk m c 0 (pointOf h a) : FVec F S16x320 .f32) (ix2 h (colOf a j))) := by
  have hp : Value.pt5Of (ix3 h a j : S16x2048x2048.Idx) = (pointOf h a).val := by
    show 2 * (h.val / 1 - 0) + 1 * (a.val / 1024 - 0) + 1 * (j.val / 2048 - 0) = 2 * h.val + a.val / 1024
    omega
  have hl : Value.loc5Of (ix3 h a j : S16x2048x2048.Idx) = (ix3 0 (rowOf a) j : S1x1024x2048.Idx) := by
    funext b
    refine Fin.ext ?_
    fin_cases b
    · exact Nat.mod_one _
    · rfl
    · exact Nat.mod_eq_of_lt j.isLt
  unfold Value.G5
  rw [dif_pos (by rw [hp]; exact (pointOf h a).isLt), hl, Value.fold0_congr m c _ _ _ (by rw [Nat.zero_add]; exact (pointOf h a).isLt) hp, ← Value.outsAt0_sweep m c _ (pointOf h a).isLt, gated_after, gated_block, relCol_pointOf]
  congr 3
  exact Fin.ext (pointOf_head h a)

end Cert.KernelIdeal.Rows

end
-- ==== Proof.Bucket.lean ====
/- The bucket of a relative position, over the extended reals: both programs compute it by the same operations, and at
   every relative position of two of the 2048 places it is a row of the 320-row table. -/
module

public import Idealize.ShloMosaic.PureOps.Ideal.Laws
public import Mathlib.Tactic.NormNum
public import Mathlib.Tactic.Linarith
public import Mathlib.Tactic.Positivity
public import Mathlib.Tactic.FieldSimp

@[expose] public section

noncomputable section

namespace Cert.Bucket

open Idealize.ShloMosaic

/-- The logarithmic part of the bucket of a distance `a`, before rounding:
    `log (max a 1 / 80) / L * 80`, with `L` the single-precision constant nearest `log 16`. -/
def logPart (a : BitVec 32) : EReal :=
  Ideal.div (Ideal.log (Ideal.div (max (((a.toInt : ℝ) : EReal)) (Ideal.ofBits .f32 0x3F800000#32)) (Ideal.ofBits .f32 0x42A00000#32)))
    (Ideal.ofBits .f32 0x40317218#32) * Ideal.ofBits .f32 0x42A00000#32

/-- The bucket of a distance `a`: itself below 80, else 80 plus the logarithmic part, at most 159. -/
def distBucket (a : BitVec 32) : BitVec 32 :=
  Scalar.select (IntOp.cmpi .slt a 80#32) a (IntOp.minsi (IntOp.addi 80#32 (Ideal.fptosi 32 (logPart a))) 159#32)

/-- The bucket of a relative position `r`: the bucket of its distance, and 160 more for a positive one. -/
def bucket (r : BitVec 32) : BitVec 32 :=
  IntOp.addi (IntOp.muli ((IntOp.cmpi .sgt r 0#32).setWidth 32) 160#32) (distBucket (IntOp.absi r))

/-! ## The three constants -/

/-- The first constant is 1. -/
theorem lit_one : Ideal.ofBits .f32 0x3F800000#32 = ((1 : ℝ) : EReal) := by
  simp [Ideal.ofBits, Ideal.ieee, -EReal.coe_mul]; norm_num

/-- The second is 80. -/
theorem lit_eighty : Ideal.ofBits .f32 0x42A00000#32 = ((80 : ℝ) : EReal) := by
  simp [Ideal.ofBits, Ideal.ieee, -EReal.coe_mul]; norm_num

/-- The third is the fraction nearest `log 16` in single precision. -/
theorem lit_log : Ideal.ofBits .f32 0x40317218#32 = ((11629080 / 4194304 : ℝ) : EReal) := by
  simp [Ideal.ofBits, Ideal.ieee, -EReal.coe_mul]; norm_num

/-! ## The logarithmic part -/

/-- Division of reals with a divisor off zero. -/
theorem div_real (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- A number below 4096 read as a signed word. -/
theorem toInt_small (n : ℕ) (h : n < 4096) : (BitVec.ofNat 32 n).toInt = (n : ℤ) := by
  rw [BitVec.toInt_eq_toNat_cond, BitVec.toNat_ofNat]
  split <;> omega

/-- At a distance from 80 to 2047 the logarithmic part is a real from 0 to 2048. -/
theorem logPart_real (d : ℕ) (h : 80 ≤ d) (hd : d < 2048) : ∃ x : ℝ, logPart (BitVec.ofNat 32 d) = (x : EReal) ∧ 0 ≤ x ∧ x ≤ 2048 := by
  have hi : (BitVec.ofNat 32 d).toInt = (d : ℤ) := toInt_small d (by omega)
  have h80 : (80 : ℝ) ≤ d := by exact_mod_cast h
  have h2048 : (d : ℝ) ≤ 2048 := by exact_mod_cast hd.le
  have hm : max (((d : ℝ)) : EReal) ((1 : ℝ) : EReal) = ((d : ℝ) : EReal) := by
    apply max_eq_left
    exact_mod_cast (by linarith : (1 : ℝ) ≤ d)
  have hq : 0 < (d : ℝ) / 80 := by positivity
  have hl0 : 0 ≤ Real.log ((d : ℝ) / 80) := Real.log_nonneg (by rw [le_div_iff₀ (by norm_num)]; linarith)
  have hl1 : Real.log ((d : ℝ) / 80) ≤ (d : ℝ) / 80 - 1 := Real.log_le_sub_one_of_pos hq
  refine ⟨Real.log ((d : ℝ) / 80) / (11629080 / 4194304) * 80, ?_, by positivity, ?_⟩
  · unfold logPart
    rw [hi, lit_one, lit_eighty, lit_log]
    have hc : (((d : ℤ) : ℝ) : EReal) = ((d : ℝ) : EReal) := by norm_cast
    rw [hc, hm, div_real _ _ (by norm_num), Ideal.log_coe, if_neg (not_le.mpr hq), div_real _ _ (by norm_num), ← EReal.coe_mul]
  · have : Real.log ((d : ℝ) / 80) / (11629080 / 4194304) ≤ Real.log ((d : ℝ) / 80) := div_le_self hl0 (by norm_num)
    linarith

/-- Rounded toward zero it is a natural number up to 2048. -/
theorem logPart_round (d : ℕ) (h : 80 ≤ d) (hd : d < 2048) : ∃ n : ℕ, n ≤ 2048 ∧ Ideal.fptosi 32 (logPart (BitVec.ofNat 32 d)) = BitVec.ofNat 32 n := by
  obtain ⟨x, hx, h0, h1⟩ := logPart_real d h hd
  have hf0 : 0 ≤ ⌊x⌋ := Int.floor_nonneg.mpr h0
  have hf1 : ⌊x⌋ ≤ 2048 := by
    have : ⌊x⌋ ≤ ⌊(2048 : ℝ)⌋ := Int.floor_le_floor h1
    have e : ⌊(2048 : ℝ)⌋ = 2048 := by norm_num
    omega
  refine ⟨⌊x⌋.toNat, by omega, ?_⟩
  rw [hx]
  show BitVec.ofInt 32 (max _ (min _ (if 0 ≤ x then ⌊x⌋ else ⌈x⌉))) = _
  rw [if_pos h0]
  have e : max (-((2 ^ (32 - 1) : ℕ) : ℤ)) (min (((2 ^ (32 - 1) : ℕ) : ℤ) - 1) ⌊x⌋) = (⌊x⌋.toNat : ℤ) := by
    norm_num
    omega
  rw [e, BitVec.ofInt_natCast]

/-! ## The bucket's range -/

/-- The bucket of a distance below 2048 is below 160. -/
theorem distBucket_lt (d : ℕ) (hd : d < 2048) : ∃ n : ℕ, n < 160 ∧ distBucket (BitVec.ofNat 32 d) = BitVec.ofNat 32 n := by
  unfold distBucket
  by_cases h : d < 80
  · refine ⟨d, by omega, ?_⟩
    have e : IntOp.cmpi .slt (BitVec.ofNat 32 d) 80#32 = 1#1 := by
      show BitVec.ofBool ((BitVec.ofNat 32 d).slt 80#32) = 1#1
      rw [BitVec.slt_eq_decide, toInt_small d (by omega), decide_eq_true (show (d : ℤ) < (80#32).toInt from by show (d : ℤ) < 80; omega)]
      rfl
    rw [e]
    rfl
  · obtain ⟨n, hn, hr⟩ := logPart_round d (by omega) hd
    have e : IntOp.cmpi .slt (BitVec.ofNat 32 d) 80#32 = 0#1 := by
      show BitVec.ofBool ((BitVec.ofNat 32 d).slt 80#32) = 0#1
      rw [BitVec.slt_eq_decide, toInt_small d (by omega), decide_eq_false (show ¬(d : ℤ) < (80#32).toInt from by show ¬(d : ℤ) < 80; omega)]
      rfl
    rw [e, hr]
    show ∃ k, k < 160 ∧ IntOp.minsi (80#32 + BitVec.ofNat 32 n) 159#32 = BitVec.ofNat 32 k
    have s : 80#32 + BitVec.ofNat 32 n = BitVec.ofNat 32 (80 + n) := (BitVec.ofNat_add 80 n).symm
    rw [s]
    unfold IntOp.minsi
    by_cases hlt : (BitVec.ofNat 32 (80 + n)).slt 159#32 = true
    · rw [if_pos hlt]
      refine ⟨80 + n, ?_, rfl⟩
      rw [BitVec.slt_eq_decide, toInt_small _ (by omega)] at hlt
      have := of_decide_eq_true hlt
      have e159 : (159#32).toInt = 159 := rfl
      omega
    · rw [if_neg hlt]
      exact ⟨159, by omega, rfl⟩

/-- The distance of two places. -/
theorem absi_sub (a j : ℕ) (ha : a < 2048) (hj : j < 2048) :
    IntOp.absi (BitVec.ofNat 32 j - BitVec.ofNat 32 a) = BitVec.ofNat 32 (j - a + (a - j)) := by
  unfold IntOp.absi
  rcases Nat.lt_or_ge j a with h | h
  · have e : BitVec.ofNat 32 j - BitVec.ofNat 32 a = -BitVec.ofNat 32 (a - j) := by
      apply BitVec.eq_of_toNat_eq
      rw [BitVec.toNat_sub, BitVec.toNat_neg, BitVec.toNat_ofNat, BitVec.toNat_ofNat, BitVec.toNat_ofNat]
      omega
    have m : (BitVec.ofNat 32 j - BitVec.ofNat 32 a).msb = true := by
      rw [BitVec.msb_eq_decide, e, BitVec.toNat_neg, BitVec.toNat_ofNat]
      apply decide_eq_true
      omega
    rw [m, if_pos rfl, e, BitVec.neg_neg]
    congr 1
    omega
  · have e : BitVec.ofNat 32 j - BitVec.ofNat 32 a = BitVec.ofNat 32 (j - a) := by
      apply BitVec.eq_of_toNat_eq
      rw [BitVec.toNat_sub, BitVec.toNat_ofNat, BitVec.toNat_ofNat, BitVec.toNat_ofNat]
      omega
    have m : (BitVec.ofNat 32 j - BitVec.ofNat 32 a).msb = false := by
      rw [BitVec.msb_eq_decide, e, BitVec.toNat_ofNat]
      apply decide_eq_false
      omega
    rw [m, if_neg (by decide), e]
    congr 1
    omega

/-- The bucket of the relative position of two of the 2048 places is one of the 320 rows. -/
theorem bucket_row (a j : ℕ) (ha : a < 2048) (hj : j < 2048) :
    ∃ b : Fin 320, bucket (BitVec.ofNat 32 j - BitVec.ofNat 32 a) = BitVec.ofNat 32 b.val := by
  unfold bucket
  rw [absi_sub a j ha hj]
  obtain ⟨n, hn, e⟩ := distBucket_lt (j - a + (a - j)) (by omega)
  rw [e]
  show ∃ b : Fin 320, (BitVec.setWidth 32 (BitVec.ofBool _)) * 160#32 + BitVec.ofNat 32 n = BitVec.ofNat 32 b.val
  generalize BitVec.slt 0#32 (BitVec.ofNat 32 j - BitVec.ofNat 32 a) = p
  cases p
  · exact ⟨⟨n, by omega⟩, by
      show 0#32 + BitVec.ofNat 32 n = BitVec.ofNat 32 n
      rw [BitVec.zero_add]⟩
  · exact ⟨⟨160 + n, by omega⟩, (BitVec.ofNat_add 160 n).symm⟩

/-- The row of the table that places `a` and `j` share. -/
def row (a j : Fin 2048) : Fin 320 := (bucket_row a.val j.val a.isLt j.isLt).choose

/-- The bucket of the relative position of places `a` and `j` is their row. -/
theorem bucket_eq (a j : Fin 2048) : bucket (BitVec.ofNat 32 j.val - BitVec.ofNat 32 a.val) = BitVec.ofNat 32 (row a j).val :=
  (bucket_row a.val j.val a.isLt j.isLt).choose_spec

end Cert.Bucket

end
-- ==== Proof.KernelBias.lean ====
/- The kernel's wide bias over the extended reals: the product of the transposed table with the one-hot columns of the
   buckets picks one row of the table per column. -/
module

public import proofs.«01_k».proof.Proof.Arrays
public import proofs.«01_k».proof.Proof.Bucket

@[expose] public section

set_option maxRecDepth 16384

noncomputable section

namespace Cert.KernelIdeal.Rows

open Idealize.ShloMosaic Idealize.ShloMosaic.TcCoe Idealize.ShloMosaic.Tactic Idealize.SL.Sem Cert.KernelIdeal.Gen Idealize.ShloMosaic.ValueIdx
open Cert.Bucket

/-- Entry `(b, k)` of the one-hot columns: 1 where row `b` is the bucket of the relative position of column `k`. -/
def oneHot (b : Fin 320) (k : Fin 4096) : EReal :=
  ((((IntOp.cmpi .eq (BitVec.ofNat 32 b.val) (bucket (BitVec.ofNat 32 k.val - 2047#32))).setWidth 32).toInt : ℝ) : EReal)

/-- The relative position of the column that places `a` and `j` share. -/
theorem column_position (a j : Fin 2048) :
    BitVec.ofNat 32 (colOf a j).val - 2047#32 = BitVec.ofNat 32 j.val - BitVec.ofNat 32 a.val := by
  apply BitVec.eq_of_toNat_eq
  rw [BitVec.toNat_sub, BitVec.toNat_sub, BitVec.toNat_ofNat, BitVec.toNat_ofNat, BitVec.toNat_ofNat, BitVec.toNat_ofNat]
  show (2 ^ 32 - 2047 % 2 ^ 32 + (2047 + j.val - a.val) % 2 ^ 32) % 2 ^ 32 = _
  omega

/-- The one-hot column of places `a` and `j` is 1 at the row they share, and 0 elsewhere. -/
theorem oneHot_col (b : Fin 320) (a j : Fin 2048) : oneHot b (colOf a j) = if b = row a j then 1 else 0 := by
  unfold oneHot
  rw [column_position, bucket_eq]
  show ((((BitVec.ofBool (BitVec.ofNat 32 b.val == BitVec.ofNat 32 (row a j).val)).setWidth 32).toInt : ℝ) : EReal) = _
  by_cases h : b = row a j
  · rw [if_pos h, h, beq_self_eq_true]
    show (((1 : ℤ) : ℝ) : EReal) = 1
    norm_num
  · have ne : (BitVec.ofNat 32 b.val == BitVec.ofNat 32 (row a j).val) = false := by
      apply beq_eq_false_iff_ne.2
      intro e
      have e' := congrArg BitVec.toNat e
      rw [BitVec.toNat_ofNat, BitVec.toNat_ofNat] at e'
      exact h (Fin.ext (by omega))
    rw [if_neg h, ne]
    show (((0 : ℤ) : ℝ) : EReal) = 0
    norm_num

/-- The wide bias as a sum over the rows of the table. -/
theorem wide_sum (x : FVec Ideal S16x320 .f32) (h : Fin 16) (k : Fin 4096) :
    k0_pay3 x (ix2 h k) = ∑ b : Fin 320, x (ix2 h b) * oneHot b k := by
  unfold k0_pay3
  simp only [matmul]
  rw [Ideal.matmul_constant_zero_apply,
    ← Equiv.sum_comp (ValueIdx.contrEquiv1 dot_S16x320_S320x4096_S16x4096_1_0_0_1_n_n 320 rfl rfl).symm]
  refine Finset.sum_congr rfl fun b _ => ?_
  have hk := ValueIdx.contrEquiv1_symm_val dot_S16x320_S320x4096_S16x4096_1_0_0_1_n_n 320 rfl rfl b
  generalize (ValueIdx.contrEquiv1 dot_S16x320_S320x4096_S16x4096_1_0_0_1_n_n 320 rfl rfl).symm b = q at hk ⊢
  have el : dot_S16x320_S320x4096_S16x4096_1_0_0_1_n_n.lhsIdx (ix2 h k) q = (ix2 h b : S16x320.Idx) := by
    funext a
    refine Fin.ext ?_
    fin_cases a
    · show (dot_S16x320_S320x4096_S16x4096_1_0_0_1_n_n.lhsIdx (ix2 h k) q (0 : Fin 2)).val = h.val
      unfold DotDims.lhsIdx
      rw [dif_neg (show (0 : Fin 2) ∉ dot_S16x320_S320x4096_S16x4096_1_0_0_1_n_n.lhsBatch by decide),
        dif_pos (show (0 : Fin 2) ∈ dot_S16x320_S320x4096_S16x4096_1_0_0_1_n_n.lhsNonContracting by decide)]
      rfl
    · exact (dot_S16x320_S320x4096_S16x4096_1_0_0_1_n_n.lhsIdx_val_of_single rfl _ q).trans hk
  have er : dot_S16x320_S320x4096_S16x4096_1_0_0_1_n_n.rhsIdx (ix2 h k) q = (ix2 b k : S320x4096.Idx) := by
    funext a
    refine Fin.ext ?_
    fin_cases a
    · exact (dot_S16x320_S320x4096_S16x4096_1_0_0_1_n_n.rhsIdx_val_of_single rfl _ q).trans hk
    · show (dot_S16x320_S320x4096_S16x4096_1_0_0_1_n_n.rhsIdx (ix2 h k) q (1 : Fin 2)).val = k.val
      unfold DotDims.rhsIdx
      rw [dif_neg (show (1 : Fin 2) ∉ dot_S16x320_S320x4096_S16x4096_1_0_0_1_n_n.rhsBatch by decide),
        dif_pos (show (1 : Fin 2) ∈ dot_S16x320_S320x4096_S16x4096_1_0_0_1_n_n.rhsNonContracting by decide)]
      rfl
  rw [el, er]
  congr 1
  · exact shapeCast_apply x _ _ _ rfl
  · show ((((IntOp.cmpi .eq (iota .tc S320x4096 32 [0] iota_S320x4096_d0_w32 (ix2 b k)) _).setWidth 32).toInt : ℝ) : EReal) = _
    rw [iota_single_apply]
    unfold oneHot
    congr 5
    refine (broadcastTo_apply _ _ (ix2 b k) (ix2 0 k : S1x4096.Idx) fun a => by fin_cases a <;> rfl).trans ?_
    have ei : iota .tc S1x4096 32 [1] iota_S1x4096_d1_w32 (ix2 0 k) = BitVec.ofNat 32 k.val := iota_single_apply _ _ _ _ _ _
    rw [← ei]
    rfl

/-- The wide bias at the column that places `a` and `j` share is the table's entry at the row they share. -/
theorem wide_entry (x : FVec Ideal S16x320 .f32) (h : Fin 16) (a j : Fin 2048) :
    k0_pay3 x (ix2 h (colOf a j)) = x (ix2 h (row a j)) := by
  rw [wide_sum, Finset.sum_eq_single (row a j)]
  · rw [oneHot_col, if_pos rfl]
    exact mul_one _
  · intro b _ hb
    rw [oneHot_col, if_neg hb]
    exact mul_zero _
  · intro hb
    exact absurd (Finset.mem_univ _) hb

variable (m : (ℓ : Loc nD τ sig) → Buf (Elt Ideal) ℓ) (c : Dev nD)

/-- The kernel's second result: at head `h` and places `a`, `j`, the table's entry at the row they share. -/
theorem biasArray_entry (h : Fin 16) (a j : Fin 2048) :
    Value.G6 m c (ix3 h a j : S16x2048x2048.Idx) = tableArg m c (ix2 (row a j) h) :=
  (biasArray_apply m c h a j).trans ((wide_entry _ h a j).trans (table_block m c (pointOf h a) h (row a j)))

end Cert.KernelIdeal.Rows

end
-- ==== Proof.Gate.lean ====
/- The gate of one row over the extended reals: eight scores, one per row of the weights, summed in two halves of four; the
   two half sums, through the logistic function, scale the row's bias. -/
module

public import Idealize.ShloMosaic.PureOps.Ideal.Laws

@[expose] public section

noncomputable section

namespace Cert.Gate

open Idealize.ShloMosaic

/-- Score `r` of the row `x`: its product with row `r` of the weights, and the offset of `r`. -/
def score (x : Fin 64 → EReal) (w : Fin 8 → Fin 64 → EReal) (o : Fin 8 → EReal) (r : Fin 8) : EReal :=
  (∑ d : Fin 64, x d * w r d) + o r

/-- Score `k` of half `s`. -/
def halfScore (s : Fin 2) (k : Fin 4) : Fin 8 := ⟨4 * s.val + k.val, by omega⟩

/-- The sum of the four scores of half `s`, through the logistic function. -/
def half (x : Fin 64 → EReal) (w : Fin 8 → Fin 64 → EReal) (o : Fin 8 → EReal) (s : Fin 2) : EReal :=
  Ideal.logistic (∑ k : Fin 4, score x w o (halfScore s k))

/-- The gate of the row `x` of a head whose constant is `c`: `half 0 * (half 1 * c - 1) + 2`. -/
def gate (x : Fin 64 → EReal) (w : Fin 8 → Fin 64 → EReal) (o : Fin 8 → EReal) (c : EReal) : EReal :=
  half x w o 0 * (half x w o 1 * c - Ideal.ofBits .f32 0x3F800000#32) + Ideal.ofBits .f32 0x40000000#32

end Cert.Gate

end
-- ==== Proof.KernelGate.lean ====
/- The kernel's gates over the extended reals: row `p` of a block holds the gate of row `p` of the block's hidden values. -/
module

public import proofs.«01_k».proof.Proof.KernelBias
public import proofs.«01_k».proof.Proof.Gate

@[expose] public section

set_option maxRecDepth 16384

noncomputable section

namespace Cert.KernelIdeal.Rows

open Idealize.ShloMosaic Idealize.ShloMosaic.TcCoe Idealize.ShloMosaic.Tactic Idealize.SL.Sem Cert.KernelIdeal.Gen Idealize.ShloMosaic.ValueIdx
open Cert.Gate Cert.Bucket

/-- How a block's hidden values meet the weights: the 64 entries of a row of each are multiplied and summed. -/
abbrev scoreDims : DotDims S1024x64 S8x64 S1024x8 := dot_S1024x64_S8x64_S1024x8_1_1_0_0_n_n

/-- The product of the hidden rows with the weight rows, into zeros. -/
theorem product_apply (x : FVec Ideal S1024x64 .f32) (w : FVec Ideal S8x64 .f32) (p : Fin 1024) (r : Fin 8) :
    FloatOps.matmul scoreDims none x w (constant S1024x8 .f32 0x00000000#32) (ix2 p r)
      = ∑ d : Fin 64, x (ix2 p d) * w (ix2 r d) := by
  rw [Ideal.matmul_constant_zero_apply, ← Equiv.sum_comp (ValueIdx.contrEquiv1 scoreDims 64 rfl rfl).symm]
  refine Finset.sum_congr rfl fun d _ => ?_
  have hd := ValueIdx.contrEquiv1_symm_val scoreDims 64 rfl rfl d
  generalize (ValueIdx.contrEquiv1 scoreDims 64 rfl rfl).symm d = q at hd ⊢
  have el : scoreDims.lhsIdx (ix2 p r) q = (ix2 p d : S1024x64.Idx) := by
    funext a
    refine Fin.ext ?_
    fin_cases a
    · show (scoreDims.lhsIdx (ix2 p r) q (0 : Fin 2)).val = p.val
      unfold DotDims.lhsIdx
      rw [dif_neg (show (0 : Fin 2) ∉ scoreDims.lhsBatch by decide), dif_pos (show (0 : Fin 2) ∈ scoreDims.lhsNonContracting by decide)]
      rfl
    · exact (scoreDims.lhsIdx_val_of_single rfl _ q).trans hd
  have er : scoreDims.rhsIdx (ix2 p r) q = (ix2 r d : S8x64.Idx) := by
    funext a
    refine Fin.ext ?_
    fin_cases a
    · show (scoreDims.rhsIdx (ix2 p r) q (0 : Fin 2)).val = r.val
      unfold DotDims.rhsIdx
      rw [dif_neg (show (0 : Fin 2) ∉ scoreDims.rhsBatch by decide), dif_pos (show (0 : Fin 2) ∈ scoreDims.rhsNonContracting by decide)]
      rfl
    · exact (scoreDims.rhsIdx_val_of_single rfl _ q).trans hd
  rw [el, er]

/-- The scores of the rows of a block. -/
def scores (q : FVec Ideal S1x1x1024x64 .f32) (wq : FVec Ideal S8x64 .f32) (bq : FVec Ideal S1x8 .f32) : FVec Ideal S1024x8 .f32 :=
  addf (matmul scoreDims none (shapeCast S1024x64 q shapeCasts_S1x1x1024x64_S1024x64 : FVec Ideal S1024x64 .f32) wq
      (constant S1024x8 .f32 0x00000000#32))
    (broadcastTo S1024x8 (shapeCast S1x8 bq shapeCasts_S1x8_S1x8 : FVec Ideal S1x8 .f32) broadcasts_S1x8_S1024x8)

/-- They are the scores of the rows. -/
theorem scores_apply (q : FVec Ideal S1x1x1024x64 .f32) (wq : FVec Ideal S8x64 .f32) (bq : FVec Ideal S1x8 .f32) (p : Fin 1024)
    (r : Fin 8) :
    scores q wq bq (ix2 p r) = score (fun d => q (ix4 0 0 p d)) (fun r d => wq (ix2 r d)) (fun r => bq (ix2 0 r)) r := by
  unfold scores score
  simp only [matmul]
  rw [addf_apply, product_apply]
  have eb : broadcastTo S1024x8 (shapeCast S1x8 bq shapeCasts_S1x8_S1x8 : FVec Ideal S1x8 .f32) broadcasts_S1x8_S1024x8 (ix2 p r)
      = bq (ix2 0 r) :=
    (broadcastTo_apply _ _ (ix2 p r) (ix2 0 r : S1x8.Idx) fun a => by fin_cases a <;> rfl).trans (shapeCast_apply bq _ _ _ rfl)
  rw [eb]
  refine congrArg (· + bq (ix2 0 r)) (Finset.sum_congr rfl fun d _ => congrArg (· * wq (ix2 r d)) ?_)
  refine shapeCast_apply q _ (ix2 p d : S1024x64.Idx) (ix4 0 0 p d : S1x1x1024x64.Idx) ?_
  rw [Shape.rowMajor_val_two, Shape.rowMajor_val_four]
  show ((0 * 1 + 0) * 1024 + p.val) * 64 + d.val = p.val * 64 + d.val
  omega

/-- Half `s` of the scores, from column `4 * s` on, summed along the rows and kept as a column, reads at row `p` as the sum
    of that row's four entries. -/
theorem halfSum_apply (v : FVec Ideal S1024x8 .f32) (s : Fin 2) (off : Fin S1024x8.rank → ℕ) (hs : S1024x8.Slices off S1024x4)
    (h0 : off 0 = 0) (h1 : off 1 = 4 * s.val) (p : Fin 1024) :
    (shapeCast S1024x1 (multiReduction .add [1] S1024 (extractStridedSlice S1024x4 off v hs : FVec Ideal S1024x4 .f32)
        0x00000000#32 reduces_S1024x4_S1024 (.inl rfl) rfl : FVec Ideal S1024 .f32) shapeCasts_S1024_S1024x1 : FVec Ideal S1024x1 .f32)
        (ix2 p 0)
      = ∑ k : Fin 4, v (ix2 p (halfScore s k)) := by
  refine (shapeCast_apply _ _ (ix2 p 0 : S1024x1.Idx) (ix1 p : S1024.Idx) ?_).trans ?_
  · rw [Shape.rowMajor_val_two, Shape.rowMajor_val_one]
    show p.val = p.val * 1 + 0
    omega
  · refine (Ideal.multiReduction_add_single _ _ _ _ _ _).trans (Finset.sum_congr rfl fun k _ => ?_)
    refine extractStridedSlice_apply _ _ _ _ _ fun a => ?_
    fin_cases a
    · show p.val = off 0 + p.val
      omega
    · show 4 * s.val + k.val = off 1 + k.val
      omega

/-- The constant of head `i`, taken from the row of all constants by zeroing the others and adding all sixteen. -/
theorem headConst_apply (n : Fin 16) (gw : FVec Ideal S1x16 .f32) :
    (extractAt ![0, 0, 0] (shapeCast S1x1x1 (multiReduction .add [1, 2] S1 (shapeCast S1x1x16
        (select (cmpi .eq (iota .tc S1x16 32 [1] iota_S1x16_d1_w32) (broadcast S1x16 (BitVec.ofNat 32 n.val)))
          (shapeCast S1x16 gw shapeCasts_S1x16_S1x16 : FVec Ideal S1x16 .f32)
          (broadcast S1x16 (Scalar.ofBits .f32 0x00000000#32 : Ideal .f32) : FVec Ideal S1x16 .f32) : FVec Ideal S1x16 .f32)
        shapeCasts_S1x16_S1x1x16 : FVec Ideal S1x1x16 .f32) 0x00000000#32 reduces_S1x1x16_S1 (.inl rfl) rfl : FVec Ideal S1 .f32)
        shapeCasts_S1_S1x1x1 : FVec Ideal S1x1x1 .f32) inpos_S1x1x1_p0_0_0 : EReal)
      = gw (ix2 0 n) := by
  refine (shapeCast_apply _ _ (fun a => ⟨![0, 0, 0] a, inpos_S1x1x1_p0_0_0 a⟩ : S1x1x1.Idx) (ix1 0 : S1.Idx) ?_).trans ?_
  · rw [Shape.rowMajor_val_three, Shape.rowMajor_val_one]
    rfl
  refine (Ideal.multiReduction_add_total _ _ _ (fun b => by fin_cases b; rfl) _ _ _).trans ?_
  rw [Finset.sum_eq_single (ix3 0 0 n : S1x1x16.Idx)]
  · refine (shapeCast_apply _ _ (ix3 0 0 n : S1x1x16.Idx) (ix2 0 n : S1x16.Idx) ?_).trans ?_
    · rw [Shape.rowMajor_val_two, Shape.rowMajor_val_three]
      rfl
    · rw [select_apply]
      show Scalar.select (IntOp.cmpi .eq (iota .tc S1x16 32 [1] iota_S1x16_d1_w32 (ix2 0 n)) (BitVec.ofNat 32 n.val)) _ _ = _
      rw [iota_single_apply]
      show Scalar.select (BitVec.ofBool (BitVec.ofNat 32 n.val == BitVec.ofNat 32 n.val)) _ _ = _
      rw [beq_self_eq_true]
      exact shapeCast_apply gw _ _ _ rfl
  · intro y _ hy
    have hn : (y 2).val ≠ n.val := by
      intro e
      refine hy (funext fun a => Fin.ext ?_)
      fin_cases a
      · have := (y 0).isLt
        show (y 0).val = 0
        exact Nat.lt_one_iff.1 this
      · have := (y 1).isLt
        show (y 1).val = 0
        exact Nat.lt_one_iff.1 this
      · exact e
    have hy2 : (y 2).val < 16 := (y 2).isLt
    refine (shapeCast_apply _ _ y (ix2 0 (y 2) : S1x16.Idx) ?_).trans ?_
    · rw [Shape.rowMajor_val_two, Shape.rowMajor_val_three]
      have h0 : (y 0).val < 1 := (y 0).isLt
      have h1 : (y 1).val < 1 := (y 1).isLt
      show 0 * 16 + (y 2).val = ((y 0).val * 1 + (y 1).val) * 16 + (y 2).val
      omega
    · rw [select_apply]
      show Scalar.select (IntOp.cmpi .eq (iota .tc S1x16 32 [1] iota_S1x16_d1_w32 (ix2 0 (y 2))) (BitVec.ofNat 32 n.val)) _ _ = _
      rw [iota_single_apply]
      have ne : (BitVec.ofNat 32 (y 2).val == BitVec.ofNat 32 n.val) = false := by
        apply beq_eq_false_iff_ne.2
        intro e
        have e' := congrArg BitVec.toNat e
        rw [BitVec.toNat_ofNat, BitVec.toNat_ofNat] at e'
        omega
      show Scalar.select (BitVec.ofBool (BitVec.ofNat 32 (y 2).val == BitVec.ofNat 32 n.val)) _ _ = _
      rw [ne]
      exact Ideal.ofBits_zero_f32
  · intro h
    exact absurd (Finset.mem_univ _) h

/-- The gates of a block of head `i`, at row `p`: the gate of the block's row `p`. -/
theorem gates_apply (i : grid0.Coords) (q : FVec Ideal S1x1x1024x64 .f32) (wq : FVec Ideal S8x64 .f32) (bq : FVec Ideal S1x8 .f32)
    (gw : FVec Ideal S1x16 .f32) (p : Fin 1024) :
    gates (F := Ideal) i q wq bq gw (ix2 p 0)
      = gate (fun d => q (ix4 0 0 p d)) (fun r d => wq (ix2 r d)) (fun r => bq (ix2 0 r)) (gw (ix2 0 ⟨(i 0).val, head_lt i⟩)) := by
  have e0 := halfSum_apply (scores q wq bq) 0 ![0, 0] slices_S1024x8_o0_0_S1024x4 rfl rfl p
  have e1 := halfSum_apply (scores q wq bq) 1 ![0, 4] slices_S1024x8_o0_4_S1024x4 rfl rfl p
  have ec := headConst_apply ⟨(i 0).val, head_lt i⟩ gw
  simp only [scores_apply] at e0 e1
  unfold gate half
  rw [← e0, ← e1, ← ec]
  rfl

variable (m : (ℓ : Loc nD τ sig) → Buf (Elt Ideal) ℓ) (c : Dev nD)

/-- The kernel's first result: at head `h` and places `a`, `j`, the gate of row `a` of head `h` times the table's entry at
    the row the two places share. -/
theorem gatedArray_entry (h : Fin 16) (a j : Fin 2048) :
    Value.G5 m c (ix3 h a j : S16x2048x2048.Idx)
      = gate (fun d => hiddenArg m c (ix4 0 h a d)) (fun r d => weightArg m c (ix2 r d)) (fun r => offsetArg m c (ix1 r))
          (constArg m c (ix4 0 h 0 0))
        * tableArg m c (ix2 (row a j) h) := by
  have eh : (⟨(grid0.coords (pointOf h a) 0).val, head_lt _⟩ : Fin 16) = h := Fin.ext (pointOf_head h a)
  have ea : ∀ hp, (⟨1024 * (grid0.coords (pointOf h a) 1).val + (rowOf a).val, hp⟩ : Fin 2048) = a := fun _ => Fin.ext (by
    show 1024 * (grid0.coords (pointOf h a) 1).val + a.val % 1024 = a.val
    rw [pointOf_half]
    omega)
  have eg := gates_apply (grid0.coords (pointOf h a)) (iblk m c 1 (pointOf h a)) (iblk m c 2 (pointOf h a)) (iblk m c 3 (pointOf h a))
    (iblk m c 4 (pointOf h a)) (rowOf a)
  have ex : (fun d => (iblk m c 1 (pointOf h a) : FVec Ideal S1x1x1024x64 .f32) (ix4 0 0 (rowOf a) d))
      = fun d => hiddenArg m c (ix4 0 h a d) := funext fun d => by rw [hidden_block, eh, ea]
  have ew : (fun r d => (iblk m c 2 (pointOf h a) : FVec Ideal S8x64 .f32) (ix2 r d)) = fun r d => weightArg m c (ix2 r d) :=
    funext fun r => funext fun d => weight_block m c _ r d
  have eo : (fun r => (iblk m c 3 (pointOf h a) : FVec Ideal S1x8 .f32) (ix2 0 r)) = fun r => offsetArg m c (ix1 r) :=
    funext fun r => offset_block m c _ r
  have ec := const_block m c (pointOf h a) h
  rw [ex, ew, eo, eh, ec] at eg
  have et := (wide_entry (iblk m c 0 (pointOf h a)) h a j).trans (table_block m c (pointOf h a) h (row a j))
  refine (gatedArray_apply m c h a j).trans ?_
  rw [eg, et]
  rfl

end Cert.KernelIdeal.Rows

end
-- ==== Proof.ReferenceBias.lean ====
/- The reference's position bias over the extended reals: at head `h` and places `a`, `j` it is the table's entry at the
   row the two places share. -/
module

public import proofs.«01_k».proof.Proof.Gen.ReferenceIdeal.Read
public import proofs.«01_k».proof.Proof.Bucket

@[expose] public section

set_option maxRecDepth 16384

noncomputable section

namespace Cert.ReferenceIdeal.Entries

open Idealize.ShloMosaic Idealize.ShloMosaic.ValueIdx Cert.ReferenceIdeal.Gen Cert.ReferenceIdeal.Read Cert.Bucket

/-- The relative position of places `a` and `j`. -/
theorem position_entry (a j : Fin 2048) :
    val_main_v6 (F := Ideal) (ix2 a j) = BitVec.ofNat 32 j.val - BitVec.ofNat 32 a.val := by
  simp only [val_main_v6_apply, val_main_v5_apply, val_main_v4_apply, val_main_v3_apply, val_main_v2_apply, val_main_v1_apply,
    val_main_v0_apply]
  rfl

/-- The bucket of places `a` and `j` is the bucket of their relative position. -/
theorem bucket_entry (a j : Fin 2048) :
    val_main_v31 (F := Ideal) (ix2 a j) = bucket (BitVec.ofNat 32 j.val - BitVec.ofNat 32 a.val) := by
  rw [← position_entry]
  simp only [val_main_v31_apply, val_main_v30_apply, val_main_v29_apply, val_main_v28_apply, val_main_v27_apply,
    val_main_v26_apply, val_main_v25_apply, val_main_v24_apply, val_main_v23_apply, val_main_v22_apply, val_main_v21_apply,
    val_main_v20_apply, val_main_v19_apply, val_main_v18_apply, val_main_v17_apply, val_main_v16_apply, val_main_v15_apply,
    val_main_v14_apply, val_main_v13_apply, val_main_v12_apply, val_main_v11_apply, val_main_v10_apply, val_main_v9_apply,
    val_main_v8_apply, val_main_v7_apply]
  rfl

/-- A row number, read signed. -/
theorem row_toInt (b : Fin 320) : (BitVec.ofNat 32 b.val).toInt = (b.val : ℤ) := toInt_small _ (by omega)

/-- The row looked up for places `a` and `j`: no row is negative, so none is counted from the table's end. -/
theorem lookup_row (a j : Fin 2048) : val_main_call1_v4 (F := Ideal) (ix2 a j) = BitVec.ofNat 32 (row a j).val := by
  have neg : (BitVec.ofNat 32 (row a j).val).slt 0#32 = false := by
    rw [BitVec.slt_eq_decide, row_toInt]
    apply decide_eq_false
    have : (0#32).toInt = 0 := rfl
    omega
  rw [val_main_call1_v4_apply, val_main_call1_v1_apply, bucket_entry, bucket_eq, val_main_call1_v0_apply]
  show Scalar.select (BitVec.ofBool ((BitVec.ofNat 32 (row a j).val).slt 0#32)) _ _ = _
  rw [neg]
  rfl

/-- The same as an entry of the column of start indices. -/
theorem lookup_start (a j : Fin 2048) (z : Fin 1) :
    val_main_call1_v5 (F := Ideal) (ix3 a j z : S2048x2048x1.Idx) = BitVec.ofNat 32 (row a j).val := by
  rw [val_main_call1_v5_apply, ← lookup_row]
  exact congrArg (val_main_call1_v4 (F := Ideal)) (funext fun b => match b with | 0 => rfl | 1 => rfl)

/-- The same at any index. -/
theorem lookup_at (i : S2048x2048x1.Idx) : val_main_call1_v5 (F := Ideal) i = BitVec.ofNat 32 (row (i 0) (i 1)).val :=
  (congrArg (val_main_call1_v5 (F := Ideal)) (eq_ix3 i)).trans (lookup_start (i 0) (i 1) (i 2))

/-- Every row looked up is in the table. -/
theorem inside (i : S2048x2048x1.Idx) : val_main_call1_v11 (F := Ideal) i = 1#1 := by
  rw [val_main_call1_v11_apply, val_main_call1_v7_apply, val_main_call1_v10_apply, val_main_call1_v6_apply, val_main_call1_v9_apply,
    val_main_call1_v8_apply, lookup_at]
  generalize row (i 0) (i 1) = b
  show BitVec.ofBool ((0#32).sle (BitVec.ofNat 32 b.val)) &&& BitVec.ofBool ((BitVec.ofNat 32 b.val).sle 319#32) = 1#1
  have lo : (0#32).sle (BitVec.ofNat 32 b.val) = true := by
    rw [BitVec.sle_eq_decide, row_toInt]
    apply decide_eq_true
    have : (0#32).toInt = 0 := rfl
    omega
  have hi : (BitVec.ofNat 32 b.val).sle 319#32 = true := by
    rw [BitVec.sle_eq_decide, row_toInt]
    apply decide_eq_true
    have : (319#32).toInt = 319 := rfl
    omega
  rw [lo, hi]
  rfl

/-- A conjunction of ones, started from one, is one. -/
theorem and_ones {ι : Type} (l : List ι) (f : ι → BitVec 1) (h : ∀ n, f n = 1#1) :
    l.foldl (fun r n => IntOp.andi r (f n)) 1#1 = 1#1 := by
  induction l with
  | nil => rfl
  | cons n l ih =>
    rw [List.foldl_cons, h n]
    exact ih

/-- So no entry is marked as missing. -/
theorem present (i : S2048x2048.Idx) : val_main_call1_v12 (F := Ideal) i = 1#1 := by
  unfold val_main_call1_v12 Host.reduce
  exact and_ones _ _ fun n => inside _

/-- How the lookup reads the table: one start index per pair of places, and the whole row there. -/
abbrev lookupDims : GatherDims S320x16 S2048x2048x1 S2048x2048x16 := gather_S320x16_S2048x2048x1_S2048x2048x16_2_0_n_n_0_2_116

/-- A lookup whose start index is row `b` reads the table at row `b`. -/
theorem lookup_apply (x : FVec Ideal S320x16 .f32) (idx : IVec S2048x2048x1 32) (a j : Fin 2048) (h : Fin 16) (b : Fin 320)
    (hb : idx (ix3 a j 0 : S2048x2048x1.Idx) = BitVec.ofNat 32 b.val) :
    Host.gather lookupDims x idx (ix3 a j h : S2048x2048x16.Idx) = x (ix2 b h) := by
  refine congrArg x (funext fun k => Fin.ext ?_)
  show lookupDims.start (ix3 a j h : S2048x2048x16.Idx) idx k + lookupDims.batchCoord (ix3 a j h : S2048x2048x16.Idx) k
    + lookupDims.offCoord (ix3 a j h : S2048x2048x16.Idx) k = _
  fin_cases k
  · show lookupDims.start (ix3 a j h : S2048x2048x16.Idx) idx (0 : Fin 2) + lookupDims.batchCoord (ix3 a j h : S2048x2048x16.Idx) (0 : Fin 2)
      + lookupDims.offCoord (ix3 a j h : S2048x2048x16.Idx) (0 : Fin 2) = b.val
    rw [lookupDims.batchCoord_eq_zero _ _ (by decide), lookupDims.offCoord_eq_zero _ _ (by decide)]
    unfold GatherDims.start
    rw [dif_pos (show (0 : Fin 2) ∈ lookupDims.startIndexMap by decide)]
    have e : lookupDims.siIdx (ix3 a j h : S2048x2048x16.Idx) ⟨lookupDims.startIndexMap.idxOf (0 : Fin 2), by decide⟩
        = (ix3 a j 0 : S2048x2048x1.Idx) := funext fun p => match p with
      | 0 => rfl
      | 1 => rfl
      | 2 => rfl
    rw [e, hb, row_toInt]
    show min (b.val : ℤ).toNat 319 + 0 + 0 = b.val
    omega
  · show lookupDims.start (ix3 a j h : S2048x2048x16.Idx) idx (1 : Fin 2) + lookupDims.batchCoord (ix3 a j h : S2048x2048x16.Idx) (1 : Fin 2)
      + lookupDims.offCoord (ix3 a j h : S2048x2048x16.Idx) (1 : Fin 2) = h.val
    rw [lookupDims.batchCoord_eq_zero _ _ (by decide)]
    unfold GatherDims.start
    rw [dif_neg (show (1 : Fin 2) ∉ lookupDims.startIndexMap by decide)]
    unfold GatherDims.offCoord
    rw [dif_pos (show (1 : Fin 2) ∈ lookupDims.sKept by decide)]
    exact (Nat.zero_add _)

/-- The bias looked up for places `a` and `j` and head `h`. -/
theorem lookup_entry (x : FVec Ideal S320x16 .f32) (a j : Fin 2048) (h : Fin 16) :
    val_main_v32 (F := Ideal) x (ix3 a j h) = x (ix2 (row a j) h) := by
  rw [val_main_v32_apply, val_main_call1_v14_apply, present]
  exact lookup_apply x _ a j h (row a j) (lookup_start a j 0)

/-- The reference's second result: at head `h` and places `a`, `j`, the table's entry at the row they share. -/
theorem bias_entry (x : FVec Ideal S320x16 .f32) (h : Fin 16) (a j : Fin 2048) :
    val_main_v35 (F := Ideal) x (ix3 h a j : S16x2048x2048.Idx) = x (ix2 (row a j) h) := by
  rw [val_main_v35_apply, val_main_v34_apply, val_main_v33_apply, ← lookup_entry x a j h]
  refine congrArg (val_main_v32 (F := Ideal) x) (funext fun k => Fin.ext ?_)
  fin_cases k
  · show ((h.val * 2048 + a.val) * 2048 + j.val) / 2048 % 2048 = a.val
    omega
  · show ((h.val * 2048 + a.val) * 2048 + j.val) % 2048 = j.val
    omega
  · show ((h.val * 2048 + a.val) * 2048 + j.val) / 4194304 % 16 = h.val
    omega

end Cert.ReferenceIdeal.Entries

end
-- ==== Proof.ReferenceGate.lean ====
/- The reference's gate over the extended reals: at head `h` and place `a` it is the gate of that row. -/
module

public import proofs.«01_k».proof.Proof.ReferenceBias
public import proofs.«01_k».proof.Proof.Gate

@[expose] public section

set_option maxRecDepth 16384

noncomputable section

namespace Cert.ReferenceIdeal.Entries

open Idealize.ShloMosaic Idealize.ShloMosaic.ValueIdx Cert.ReferenceIdeal.Gen Cert.ReferenceIdeal.Read Cert.Bucket Cert.Gate

variable (x : FVec Ideal S1x16x2048x64 .f32) (t : FVec Ideal S320x16 .f32) (w : FVec Ideal S8x64 .f32) (o : FVec Ideal S8 .f32)
  (g : FVec Ideal S1x16x1x1 .f32)

/-- Score `r` of row `a` of head `h`. -/
theorem score_entry (h : Fin 16) (a : Fin 2048) (r : Fin 8) :
    val_main_v39 (F := Ideal) x w o (ix4 0 h a r)
      = score (fun d => x (ix4 0 h a d)) (fun r d => w (ix2 r d)) (fun r => o (ix1 r)) r := by
  rw [val_main_v39_apply, val_main_v36_apply, val_main_v38_apply, val_main_v37_apply]
  have eo : idx_main_v37 (idx_main_v38 (ix4 0 h a r)) = (ix1 r : S8.Idx) := funext fun k => match k with | 0 => rfl
  have ex : ∀ d, lidx_main_v36 (ix4 0 h a r) d = (ix4 0 h a d : S1x16x2048x64.Idx) := fun d => funext fun k => match k with
    | 0 => rfl
    | 1 => rfl
    | 2 => rfl
    | 3 => rfl
  have ew : ∀ d, ridx_main_v36 (ix4 0 h a r) d = (ix2 r d : S8x64.Idx) := fun d => funext fun k => match k with
    | 0 => rfl
    | 1 => rfl
  simp only [ex, ew, eo]
  rfl

/-- The sum of the scores of half `s`. -/
theorem halfSum_entry (h : Fin 16) (a : Fin 2048) (s : Fin 2) :
    val_main_v41 (F := Ideal) x w o (ix4 0 h a s)
      = ∑ k : Fin 4, score (fun d => x (ix4 0 h a d)) (fun r d => w (ix2 r d)) (fun r => o (ix1 r)) (halfScore s k) := by
  rw [val_main_v41_apply, val_main_cst_7_apply]
  refine (congrArg (· + _) Ideal.ofBits_zero_f32).trans ((zero_add _).trans (Finset.sum_congr rfl fun k _ => ?_))
  rw [val_main_v40_apply, ← score_entry]
  refine congrArg (val_main_v39 (F := Ideal) x w o) (funext fun b => Fin.ext ?_)
  fin_cases b
  · rfl
  · show ((((0 * 16 + h.val) * 2048 + a.val) * 2 + s.val) * 4 + k.val) / 16384 % 16 = h.val
    omega
  · show ((((0 * 16 + h.val) * 2048 + a.val) * 2 + s.val) * 4 + k.val) / 8 % 2048 = a.val
    omega
  · show ((((0 * 16 + h.val) * 2048 + a.val) * 2 + s.val) * 4 + k.val) % 8 = 4 * s.val + k.val
    omega

/-- One over one plus the exponential of the negation is the logistic function. -/
theorem half_entry (h : Fin 16) (a : Fin 2048) (s : Fin 2) :
    val_main_v47 (F := Ideal) x w o (ix4 0 h a s)
      = half (fun d => x (ix4 0 h a d)) (fun r d => w (ix2 r d)) (fun r => o (ix1 r)) s := by
  rw [val_main_v47_apply, val_main_v46_apply, val_main_v45_apply, val_main_v44_apply, val_main_v43_apply, val_main_v42_apply,
    val_main_cst_8_apply, val_main_cst_9_apply, halfSum_entry]
  unfold half
  show Ideal.div (Ideal.ofBits .f32 0x3F800000#32) (Ideal.ofBits .f32 0x3F800000#32 + Ideal.exp (-_)) = _
  rw [lit_one, EReal.coe_one]
  rfl

/-- The gate of row `a` of head `h`, at every place `j`. -/
theorem gate_entry (h : Fin 16) (a j : Fin 2048) :
    val_main_v58 (F := Ideal) x w o g (ix3 h a j : S16x2048x2048.Idx)
      = gate (fun d => x (ix4 0 h a d)) (fun r d => w (ix2 r d)) (fun r => o (ix1 r)) (g (ix4 0 h 0 0)) := by
  have ei : idx_main_v57 (idx_main_v58 (ix3 h a j : S16x2048x2048.Idx)) = (ix4 0 h a 0 : S1x16x2048x1.Idx) := by
    refine funext fun b => Fin.ext ?_
    fin_cases b
    · rfl
    · show ((h.val * 2048 + a.val) * 1 + 0) / 2048 % 16 = h.val
      omega
    · show ((h.val * 2048 + a.val) * 1 + 0) / 1 % 2048 = a.val
      omega
    · rfl
  have e0 : idx_main_v48 (ix4 0 h a 0 : S1x16x2048x1.Idx) = (ix4 0 h a 0 : S1x16x2048x2.Idx) := funext fun k => match k with
    | 0 => rfl
    | 1 => rfl
    | 2 => rfl
    | 3 => rfl
  have e1 : idx_main_v49 (ix4 0 h a 0 : S1x16x2048x1.Idx) = (ix4 0 h a 1 : S1x16x2048x2.Idx) := funext fun k => match k with
    | 0 => rfl
    | 1 => rfl
    | 2 => rfl
    | 3 => rfl
  have eg : idx_main_v50 (ix4 0 h a 0 : S1x16x2048x1.Idx) = (ix4 0 h 0 0 : S1x16x1x1.Idx) := funext fun k => match k with
    | 0 => rfl
    | 1 => rfl
    | 2 => rfl
    | 3 => rfl
  rw [val_main_v58_apply, val_main_v57_apply, ei, val_main_v56_apply, val_main_v54_apply, val_main_v53_apply, val_main_v51_apply,
    val_main_v48_apply, val_main_v49_apply, val_main_v50_apply, val_main_v52_apply, val_main_v55_apply, e0, e1, eg, half_entry,
    half_entry]
  rfl

/-- The reference's first result: at head `h` and places `a`, `j`, the gate of row `a` of head `h` times the table's entry at
    the row the two places share. -/
theorem gated_entry (h : Fin 16) (a j : Fin 2048) :
    val_main_v59 (F := Ideal) x t w o g (ix3 h a j : S16x2048x2048.Idx)
      = gate (fun d => x (ix4 0 h a d)) (fun r d => w (ix2 r d)) (fun r => o (ix1 r)) (g (ix4 0 h 0 0)) * t (ix2 (row a j) h) := by
  rw [val_main_v59_apply, gate_entry, bias_entry]
  rfl

end Cert.ReferenceIdeal.Entries

end
-- ==== Proof.Equation.lean ====
/- The equation: the kernel's two result arrays are the reference's, as functions of the five arguments. -/
module

public import proofs.«01_k».proof.Proof.KernelGate
public import proofs.«01_k».proof.Proof.ReferenceGate

@[expose] public section

set_option maxRecDepth 16384

noncomputable section

namespace Cert.KernelIdeal.Rows

open Idealize.ShloMosaic Idealize.ShloMosaic.TcCoe Idealize.ShloMosaic.Tactic Idealize.SL.Sem Cert.KernelIdeal.Gen Idealize.ShloMosaic.ValueIdx

variable (m : (ℓ : Loc nD τ sig) → Buf (Elt Ideal) ℓ) (c : Dev nD)

/-- The first result, the gated bias, is the reference's on the kernel's arguments. -/
theorem gated_equal : Value.G5 m c = Cert.ReferenceIdeal.Read.val_main_v59 (F := Ideal) (hiddenArg m c) (tableArg m c)
    (weightArg m c) (offsetArg m c) (constArg m c) :=
  funext fun i => (congrArg (Value.G5 m c) (eq_ix3 i)).trans ((gatedArray_entry m c (i 0) (i 1) (i 2)).trans
    ((Cert.ReferenceIdeal.Entries.gated_entry (hiddenArg m c) (tableArg m c) (weightArg m c) (offsetArg m c) (constArg m c)
      (i 0) (i 1) (i 2)).symm.trans (congrArg (Cert.ReferenceIdeal.Read.val_main_v59 (F := Ideal) (hiddenArg m c) (tableArg m c)
        (weightArg m c) (offsetArg m c) (constArg m c)) (eq_ix3 i)).symm))

/-- The second result, the bias, is the reference's on the kernel's table. -/
theorem bias_equal : Value.G6 m c = Cert.ReferenceIdeal.Read.val_main_v35 (F := Ideal) (tableArg m c) :=
  funext fun i => (congrArg (Value.G6 m c) (eq_ix3 i)).trans ((biasArray_entry m c (i 0) (i 1) (i 2)).trans
    ((Cert.ReferenceIdeal.Entries.bias_entry (tableArg m c) (i 0) (i 1) (i 2)).symm.trans
      (congrArg (Cert.ReferenceIdeal.Read.val_main_v35 (F := Ideal) (tableArg m c)) (eq_ix3 i)).symm))

end Cert.KernelIdeal.Rows

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- The kernel runs, with its arguments unchanged and every counter at zero. -/
theorem frame_kernel : Cert.quiescent_Kernel (hKernel := Cert.Kernel.Gen.facts) := fun m g _ => Cert.Kernel.Gen.frame m g

/-- So does the idealized kernel. -/
theorem frame_ideal : Cert.quiescent_KernelIdeal (hKernelIdeal := Cert.KernelIdeal.Gen.facts) :=
  fun m g _ => Cert.KernelIdeal.Gen.frame m g

/-- So does the reference, which has no counters. -/
theorem frame_reference : Cert.quiescent_ReferenceIdeal (hReferenceIdeal := Cert.ReferenceIdeal.Gen.facts) := fun m g _ =>
  (θ_run _ _ _).mono (fun r h => ⟨fun c => (h c).2.2, sem_eq_zero_of_no_sems (by decide) r.2⟩) (Cert.ReferenceIdeal.Value.run m g)

/-- From equal arguments the idealized kernel and the reference end with equal results, the gated bias and the bias. -/
theorem equal_results : Cert.algebraic_KernelIdeal_ReferenceIdeal (hKernelIdeal := Cert.KernelIdeal.Gen.facts)
    (hReferenceIdeal := Cert.ReferenceIdeal.Gen.facts) := by
  intro m g m' g' _ agree
  refine ⟨fun c => Cert.KernelIdeal.Value.G5 m c, fun c => Cert.KernelIdeal.Value.G6 m c, Cert.KernelIdeal.Value.run m g,
    (θ_run _ _ _).mono (fun _ h c => ⟨(h c).1.trans ?_, (h c).2.1.trans ?_, (h c).2.2⟩) (Cert.ReferenceIdeal.Value.run m' g')⟩
  · obtain ⟨e0, e1, e2, e3, e4⟩ := agree c
    rw [Cert.ReferenceIdeal.Read.val_main_v59_eq, e0, e1, e2, e3, e4]
    exact (Cert.KernelIdeal.Rows.gated_equal m c).symm
  · obtain ⟨_, e1, _⟩ := agree c
    rw [Cert.ReferenceIdeal.Read.val_main_v35_eq, e1]
    exact (Cert.KernelIdeal.Rows.bias_equal m c).symm

/-- The whole claim: the three frames, the idealization, and the equal results. -/
theorem claim : Cert.Claim := ⟨Cert.Kernel.Gen.facts, Cert.KernelIdeal.Gen.facts, Cert.ReferenceIdeal.Gen.facts,
  frame_kernel, frame_ideal, frame_reference, trivial, equal_results⟩

end Cert.Proof

end
